-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_valid [hPre_valid : Cert.Pre_valid.Facts] (m : (ℓ : Loc Cert.KernelIdeal.nD Cert.KernelIdeal.τ Cert.KernelIdeal.sig) → Buf (Elt Ideal) ℓ) : Prop :=
  ∀ c : Dev Cert.KernelIdeal.nD,
    (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid [hPre_valid : Cert.Pre_valid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_valid [hKernelIdeal : Cert.KernelIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_valid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_valid [hReferenceIdeal : Cert.ReferenceIdeal.Facts] [hPre_valid : Cert.Pre_valid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "inv_h" .f32 0x3AAAAAAB#32 ((1 / 768 : ℝ) : EReal)
  ∧ IdealRules.named_const.Statement Cert.KernelIdeal.κ "two_inv_h" .f32 0x3B2AAAAB#32 ((1 / 384 : ℝ) : EReal)

def algebraic_KernelIdeal_ReferenceIdeal_pre_valid [hKernelIdeal : Cert.KernelIdeal.Facts] [hReferenceIdeal : Cert.ReferenceIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_valid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_valid : Cert.Pre_valid.Facts),
    quiescent_Kernel (hKernel := hKernel)
    ∧ quiescent_KernelIdeal (hKernelIdeal := hKernelIdeal)
    ∧ quiescent_KernelIdeal_pre_valid (hKernelIdeal := hKernelIdeal) (hPre_valid := hPre_valid)
    ∧ quiescent_ReferenceIdeal (hReferenceIdeal := hReferenceIdeal)
    ∧ quiescent_ReferenceIdeal_pre_valid (hReferenceIdeal := hReferenceIdeal) (hPre_valid := hPre_valid)
    ∧ preserves_Kernel_KernelIdeal
    ∧ algebraic_KernelIdeal_ReferenceIdeal_pre_valid (hKernelIdeal := hKernelIdeal) (hReferenceIdeal := hReferenceIdeal) (hPre_valid := hPre_valid)
-- ==== Pre_valid.lean ====
abbrev S4x4096 : Shape := ⟨2, ![4, 4096]⟩
abbrev S100000x768 : Shape := ⟨2, ![100000, 768]⟩
abbrev S4096x768 : Shape := ⟨2, ![4096, 768]⟩
abbrev S2x768 : Shape := ⟨2, ![2, 768]⟩
abbrev S768 : Shape := ⟨1, ![768]⟩
abbrev S_ : Shape := ⟨0, ![]⟩
abbrev S16x768 : Shape := ⟨2, ![16, 768]⟩
abbrev S1x768 : Shape := ⟨2, ![1, 768]⟩
abbrev S1 : Shape := ⟨1, ![1]⟩

class Facts : Prop where
  bcast_S_S4x4096 : S_.BroadcastsInDim S4x4096 (![] : Fin 0 → Fin S4x4096.rank)
  slices_S100000x768_S16x768_0_0 : S100000x768.Slices ![0, 0] S16x768
  bcast_S_S16x768 : S_.BroadcastsInDim S16x768 (![] : Fin 0 → Fin S16x768.rank)
  bcast_S_S4096x768 : S_.BroadcastsInDim S4096x768 (![] : Fin 0 → Fin S4096x768.rank)
  slices_S2x768_S1x768_0_0 : S2x768.Slices ![0, 0] S1x768
  bcast_S_S1x768 : S_.BroadcastsInDim S1x768 (![] : Fin 0 → Fin S1x768.rank)
  bcast_S_S2x768 : S_.BroadcastsInDim S2x768 (![] : Fin 0 → Fin S2x768.rank)
  bcast_S_S768 : S_.BroadcastsInDim S768 (![] : Fin 0 → Fin S768.rank)
  slices_S768_S1_0 : S768.Slices ![0] S1
  bcast_S1_S768_0 : S1.BroadcastsInDim S768 (![0] : Fin 1 → Fin S768.rank)

variable [Facts]

def fn_part1 {F : FTy → Type} [FloatOps F] (main_arg5 : FVec F S2x768 .f32) (main_arg6 : FVec F S768 .f32) (main_arg7 : FVec F S768 .f32) (main_v4 : IVec S4x4096 1) (main_v8 : IVec S16x768 1) (main_v11 : IVec S4096x768 1) (main_v15 : IVec S1x768 1) (main_v16 : FVec F S2x768 .f32) (main_v17 : FVec F S2x768 .f32) : IVec S4x4096 1 × IVec S16x768 1 × IVec S4096x768 1 × IVec S1x768 1 × IVec S2x768 1 × IVec S2x768 1 × IVec S768 1 × IVec S768 1 :=
  let main_v18 : IVec S2x768 1 := cmpf .olt main_v16 main_v17
  let main_v19 : FVec F S2x768 .f32 := Host.absf main_arg5
  let main_cst_4 : FVec F S_ .f32 := constant S_ .f32 0x7F800000#32
  let main_v20 : FVec F S2x768 .f32 := broadcastInDim S2x768 ![] bcast_S_S2x768 main_cst_4
  let main_v21 : IVec S2x768 1 := cmpf .olt main_v19 main_v20
  let main_cst_5 : FVec F S_ .f32 := constant S_ .f32 0x3F800000#32
  let main_v22 : FVec F S768 .f32 := broadcastInDim S768 ![] bcast_S_S768 main_cst_5
  let main_v23 : IVec S768 1 := cmpf .oeq main_arg6 main_v22
  let main_v24 : FVec F S1 .f32 := (extractStridedSlice S1 ![0] · slices_S768_S1_0) main_arg7
  let main_v25 : FVec F S768 .f32 := broadcastInDim S768 ![0] bcast_S1_S768_0 main_v24
  let main_v26 : IVec S768 1 := cmpf .oeq main_arg7 main_v25
  (main_v4, main_v8, main_v11, main_v15, main_v18, main_v21, main_v23, main_v26)

def fn {F : FTy → Type} [FloatOps F] (main_arg0 : IVec S4x4096 32) (main_arg1 : FVec F S100000x768 .f32) (main_arg2 : FVec F S4096x768 .f32) (main_arg3 : FVec F S2x768 .f32) (main_arg4 : FVec F S2x768 .f32) (main_arg5 : FVec F S2x768 .f32) (main_arg6 : FVec F S768 .f32) (main_arg7 : FVec F S768 .f32) : IVec S4x4096 1 × IVec S16x768 1 × IVec S4096x768 1 × IVec S1x768 1 × IVec S2x768 1 × IVec S2x768 1 × IVec S768 1 × IVec S768 1 :=
  let main_c : IVec S_ 32 := constantI S_ 32 0#32
  let main_v0 : IVec S4x4096 32 := broadcastInDim S4x4096 ![] bcast_S_S4x4096 main_c
  let main_v1 : IVec S4x4096 1 := cmpi .sge main_arg0 main_v0
  let main_c_0 : IVec S_ 32 := constantI S_ 32 16#32
  let main_v2 : IVec S4x4096 32 := broadcastInDim S4x4096 ![] bcast_S_S4x4096 main_c_0
  let main_v3 : IVec S4x4096 1 := cmpi .slt main_arg0 main_v2
  let main_v4 : IVec S4x4096 1 := andi main_v1 main_v3
  let main_v5 : FVec F S16x768 .f32 := (extractStridedSlice S16x768 ![0, 0] · slices_S100000x768_S16x768_0_0) main_arg1
  let main_v6 : FVec F S16x768 .f32 := Host.absf main_v5
  let main_cst : FVec F S_ .f32 := constant S_ .f32 0x7F800000#32
  let main_v7 : FVec F S16x768 .f32 := broadcastInDim S16x768 ![] bcast_S_S16x768 main_cst
  let main_v8 : IVec S16x768 1 := cmpf .olt main_v6 main_v7
  let main_v9 : FVec F S4096x768 .f32 := Host.absf main_arg2
  let main_cst_1 : FVec F S_ .f32 := constant S_ .f32 0x7F800000#32
  let main_v10 : FVec F S4096x768 .f32 := broadcastInDim S4096x768 ![] bcast_S_S4096x768 main_cst_1
  let main_v11 : IVec S4096x768 1 := cmpf .olt main_v9 main_v10
  let main_v12 : FVec F S1x768 .f32 := (extractStridedSlice S1x768 ![0, 0] · slices_S2x768_S1x768_0_0) main_arg3
  let main_v13 : FVec F S1x768 .f32 := Host.absf main_v12
  let main_cst_2 : FVec F S_ .f32 := constant S_ .f32 0x7F800000#32
  let main_v14 : FVec F S1x768 .f32 := broadcastInDim S1x768 ![] bcast_S_S1x768 main_cst_2
  let main_v15 : IVec S1x768 1 := cmpf .olt main_v13 main_v14
  let main_v16 : FVec F S2x768 .f32 := Host.absf main_arg4
  let main_cst_3 : FVec F S_ .f32 := constant S_ .f32 0x7F800000#32
  let main_v17 : FVec F S2x768 .f32 := broadcastInDim S2x768 ![] bcast_S_S2x768 main_cst_3
  fn_part1 (F := F) main_arg5 main_arg6 main_arg7 main_v4 main_v8 main_v11 main_v15 main_v16 main_v17
-- ==== Kernel.lean ====
abbrev S4x4096 : Shape := ⟨2, ![4, 4096]⟩
abbrev S100000x768 : Shape := ⟨2, ![100000, 768]⟩
abbrev S4096x768 : Shape := ⟨2, ![4096, 768]⟩
abbrev S2x768 : Shape := ⟨2, ![2, 768]⟩
abbrev S768 : Shape := ⟨1, ![768]⟩
abbrev S1x768 : Shape := ⟨2, ![1, 768]⟩
abbrev S4x4096x768 : Shape := ⟨3, ![4, 4096, 768]⟩
abbrev S16x768 : Shape := ⟨2, ![16, 768]⟩
abbrev S1024x768 : Shape := ⟨2, ![1024, 768]⟩
abbrev S4x1024x768 : Shape := ⟨3, ![4, 1024, 768]⟩
abbrev S4 : Shape := ⟨1, ![4]⟩
abbrev S4x1 : Shape := ⟨2, ![4, 1]⟩
abbrev S4x1024 : Shape := ⟨2, ![4, 1024]⟩
abbrev S64x1 : Shape := ⟨2, ![64, 1]⟩
abbrev S64x768 : Shape := ⟨2, ![64, 768]⟩
abbrev S4x1024x1 : Shape := ⟨3, ![4, 1024, 1]⟩
abbrev S4x1024x64 : Shape := ⟨3, ![4, 1024, 64]⟩
abbrev S4096x64 : Shape := ⟨2, ![4096, 64]⟩
abbrev S64 : Shape := ⟨1, ![64]⟩
abbrev S1024 : Shape := ⟨1, ![1024]⟩
abbrev S1024x1 : Shape := ⟨2, ![1024, 1]⟩
abbrev S1024x64 : Shape := ⟨2, ![1024, 64]⟩
abbrev S1x64 : Shape := ⟨2, ![1, 64]⟩
abbrev S1x1x64 : Shape := ⟨3, ![1, 1, 64]⟩
abbrev S1x1024x64 : Shape := ⟨3, ![1, 1024, 64]⟩
abbrev S1x1024x1 : Shape := ⟨3, ![1, 1024, 1]⟩
abbrev S1x1 : Shape := ⟨2, ![1, 1]⟩
abbrev S1x1024x768 : Shape := ⟨3, ![1, 1024, 768]⟩

abbrev nBuf : Space → Nat
  | .hbm => 11
  | .vmem => 11
  | .smem => 0
  | _ => 0

abbrev bufTy : (tb : Table) → Fin (tcTables nBuf tb) → BufTy
  | .hbm, ⟨0, _⟩ => ⟨S4x4096, .i32⟩
  | .hbm, ⟨1, _⟩ => ⟨S100000x768, .f32⟩
  | .hbm, ⟨2, _⟩ => ⟨S4096x768, .f32⟩
  | .hbm, ⟨3, _⟩ => ⟨S2x768, .f32⟩
  | .hbm, ⟨4, _⟩ => ⟨S2x768, .f32⟩
  | .hbm, ⟨5, _⟩ => ⟨S2x768, .f32⟩
  | .hbm, ⟨6, _⟩ => ⟨S768, .f32⟩
  | .hbm, ⟨7, _⟩ => ⟨S768, .f32⟩
  | .hbm, ⟨8, _⟩ => ⟨S1x768, .f32⟩
  | .hbm, ⟨9, _⟩ => ⟨S1x768, .f32⟩
  | .hbm, ⟨10, _⟩ => ⟨S4x4096x768, .f32⟩
  | .local _ .vmem, ⟨0, _⟩ => ⟨S4x4096, .i32⟩
  | .local _ .vmem, ⟨1, _⟩ => ⟨S16x768, .f32⟩
  | .local _ .vmem, ⟨2, _⟩ => ⟨S1024x768, .f32⟩
  | .local _ .vmem, ⟨3, _⟩ => ⟨S1024x768, .f32⟩
  | .local _ .vmem, ⟨4, _⟩ => ⟨S2x768, .f32⟩
  | .local _ .vmem, ⟨5, _⟩ => ⟨S2x768, .f32⟩
  | .local _ .vmem, ⟨6, _⟩ => ⟨S2x768, .f32⟩
  | .local _ .vmem, ⟨7, _⟩ => ⟨S1x768, .f32⟩
  | .local _ .vmem, ⟨8, _⟩ => ⟨S1x768, .f32⟩
  | .local _ .vmem, ⟨9, _⟩ => ⟨S4x1024x768, .f32⟩
  | .local _ .vmem, ⟨10, _⟩ => ⟨S4x1024x768, .f32⟩
  | _, _ => ⟨S4x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let c0_15 : Index := 0#32
  let arg0 : BitVec 32 := BitVec.ofNat 32 (i 0).val
  let c1024_i32_14 : BitVec 32 := 1024#32
  let v58 : BitVec 32 := Scalar.muli arg0 c1024_i32_14
  let v59 : Index := Scalar.indexCast v58
  ![0, v59.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S4x4096 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4x1024x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "inv_h" => some ((1 / 768 : ℝ) : EReal)
  | "two_inv_h" => some ((1 / 384 : ℝ) : EReal)
  | _ => none
-- ==== ReferenceIdeal.lean ====
abbrev S4x4096 : Shape := ⟨2, ![4, 4096]⟩
abbrev S100000x768 : Shape := ⟨2, ![100000, 768]⟩
abbrev S4096x768 : Shape := ⟨2, ![4096, 768]⟩
abbrev S2x768 : Shape := ⟨2, ![2, 768]⟩
abbrev S768 : Shape := ⟨1, ![768]⟩
abbrev S4096 : Shape := ⟨1, ![4096]⟩
abbrev S_ : Shape := ⟨0, ![]⟩
abbrev S4 : Shape := ⟨1, ![4]⟩
abbrev S1x4096 : Shape := ⟨2, ![1, 4096]⟩
abbrev S4x1 : Shape := ⟨2, ![4, 1]⟩
abbrev S4x4096x1 : Shape := ⟨3, ![4, 4096, 1]⟩
abbrev S1 : Shape := ⟨1, ![1]⟩
abbrev S1x1x1 : Shape := ⟨3, ![1, 1, 1]⟩
abbrev S4x4096x768 : Shape := ⟨3, ![4, 4096, 768]⟩
abbrev S1x1x768 : Shape := ⟨3, ![1, 1, 768]⟩

abbrev nBuf : Space → Nat
  | .hbm => 217
  | .vmem => 0
  | .smem => 0
  | _ => 0

abbrev hbmTy0_0 (i : Nat) : BufTy := match i % 128 with
  | 0 => ⟨S4x4096, .i32⟩
  | 1 => ⟨S100000x768, .f32⟩
  | 2 => ⟨S4096x768, .f32⟩
  | 3 => ⟨S2x768, .f32⟩
  | 4 => ⟨S2x768, .f32⟩
  | 5 => ⟨S2x768, .f32⟩
  | 6 => ⟨S768, .f32⟩
  | 7 => ⟨S768, .f32⟩
  | 8 => ⟨S4096, .i32⟩
  | 9 => ⟨S_, .i32⟩
  | 10 => ⟨S4x4096, .i32⟩
  | 11 => ⟨S4x4096, .i1⟩
  | 12 => ⟨S4x4096, .i32⟩
  | 13 => ⟨S_, .i1⟩
  | 14 => ⟨S_, .i32⟩
  | 15 => ⟨S4, .i1⟩
  | 16 => ⟨S4, .i32⟩
  | 17 => ⟨S_, .i32⟩
  | 18 => ⟨S4x4096, .i32⟩
  | 19 => ⟨S4x4096, .i1⟩
  | 20 => ⟨S4x4096, .i32⟩
  | 21 => ⟨S_, .i1⟩
  | 22 => ⟨S_, .i32⟩
  | 23 => ⟨S4, .i1⟩
  | 24 => ⟨S4, .i32⟩
  | 25 => ⟨S_, .i32⟩
  | 26 => ⟨S4x4096, .i32⟩
  | 27 => ⟨S4x4096, .i1⟩
  | 28 => ⟨S4x4096, .i32⟩
  | 29 => ⟨S_, .i1⟩
  | 30 => ⟨S_, .i32⟩
  | 31 => ⟨S4, .i1⟩
  | 32 => ⟨S4, .i32⟩
  | 33 => ⟨S_, .i32⟩
  | 34 => ⟨S4x4096, .i32⟩
  | 35 => ⟨S4x4096, .i1⟩
  | 36 => ⟨S4x4096, .i32⟩
  | 37 => ⟨S_, .i1⟩
  | 38 => ⟨S_, .i32⟩
  | 39 => ⟨S4, .i1⟩
  | 40 => ⟨S4, .i32⟩
  | 41 => ⟨S1x4096, .i32⟩
  | 42 => ⟨S4x1, .i32⟩
  | 43 => ⟨S4x4096, .i32⟩
  | 44 => ⟨S4x4096, .i32⟩
  | 45 => ⟨S4x4096, .i1⟩
  | 46 => ⟨S1x4096, .i32⟩
  | 47 => ⟨S4x1, .i32⟩
  | 48 => ⟨S4x4096, .i32⟩
  | 49 => ⟨S4x4096, .i32⟩
  | 50 => ⟨S4x4096, .i1⟩
  | 51 => ⟨S4x4096, .i1⟩
  | 52 => ⟨S4x4096, .i32⟩
  | 53 => ⟨S1x4096, .i32⟩
  | 54 => ⟨S4x1, .i32⟩
  | 55 => ⟨S4x4096, .i32⟩
  | 56 => ⟨S4x4096, .i32⟩
  | 57 => ⟨S4x4096, .i1⟩
  | 58 => ⟨S1x4096, .i32⟩
  | 59 => ⟨S4x1, .i32⟩
  | 60 => ⟨S4x4096, .i32⟩
  | 61 => ⟨S4x4096, .i32⟩
  | 62 => ⟨S4x4096, .i1⟩
  | 63 => ⟨S4x4096, .i1⟩
  | 64 => ⟨S4x4096, .i32⟩
  | 65 => ⟨S1x4096, .i32⟩
  | 66 => ⟨S_, .i32⟩
  | 67 => ⟨S4x4096, .i32⟩
  | 68 => ⟨S_, .i32⟩
  | 69 => ⟨S4x4096, .i32⟩
  | 70 => ⟨S4x4096, .i1⟩
  | 71 => ⟨S_, .i32⟩
  | 72 => ⟨S4x4096, .i32⟩
  | 73 => ⟨S4x4096, .i32⟩
  | 74 => ⟨S4x4096, .i32⟩
  | 75 => ⟨S4x4096x1, .i32⟩
  | 76 => ⟨S1, .i32⟩
  | 77 => ⟨S_, .i32⟩
  | 78 => ⟨S4x4096x1, .i32⟩
  | 79 => ⟨S4x4096x1, .i1⟩
  | 80 => ⟨S1x1x1, .i32⟩
  | 81 => ⟨S4x4096x1, .i32⟩
  | 82 => ⟨S4x4096x1, .i1⟩
  | 83 => ⟨S4x4096x1, .i1⟩
  | 84 => ⟨S_, .i1⟩
  | 85 => ⟨S4x4096, .i1⟩
  | 86 => ⟨S4x4096x768, .f32⟩
  | 87 => ⟨S4x4096x768, .i1⟩
  | 88 => ⟨S_, .f32⟩
  | 89 => ⟨S4x4096x768, .f32⟩
  | 90 => ⟨S4x4096x768, .f32⟩
  | 91 => ⟨S_, .i32⟩
  | 92 => ⟨S4x4096, .i32⟩
  | 93 => ⟨S4x4096, .i1⟩
  | 94 => ⟨S_, .i32⟩
  | 95 => ⟨S4x4096, .i32⟩
  | 96 => ⟨S4x4096, .i32⟩
  | 97 => ⟨S4x4096, .i32⟩
  | 98 => ⟨S4x4096x1, .i32⟩
  | 99 => ⟨S1, .i32⟩
  | 100 => ⟨S_, .i32⟩
  | 101 => ⟨S4x4096x1, .i32⟩
  | 102 => ⟨S4x4096x1, .i1⟩
  | 103 => ⟨S1x1x1, .i32⟩
  | 104 => ⟨S4x4096x1, .i32⟩
  | 105 => ⟨S4x4096x1, .i1⟩
  | 106 => ⟨S4x4096x1, .i1⟩
  | 107 => ⟨S_, .i1⟩
  | 108 => ⟨S4x4096, .i1⟩
  | 109 => ⟨S4x4096x768, .f32⟩
  | 110 => ⟨S4x4096x768, .i1⟩
  | 111 => ⟨S_, .f32⟩
  | 112 => ⟨S4x4096x768, .f32⟩
  | 113 => ⟨S4x4096x768, .f32⟩
  | 114 => ⟨S_, .i32⟩
  | 115 => ⟨S4x4096, .i32⟩
  | 116 => ⟨S4x4096, .i1⟩
  | 117 => ⟨S_, .i32⟩
  | 118 => ⟨S4x4096, .i32⟩
  | 119 => ⟨S4x4096, .i32⟩
  | 120 => ⟨S4x4096, .i32⟩
  | 121 => ⟨S4x4096x1, .i32⟩
  | 122 => ⟨S1, .i32⟩
  | 123 => ⟨S_, .i32⟩
  | 124 => ⟨S4x4096x1, .i32⟩
  | 125 => ⟨S4x4096x1, .i1⟩
  | 126 => ⟨S1x1x1, .i32⟩
  | 127 => ⟨S4x4096x1, .i32⟩
  | _ => ⟨S4x4096, .i32⟩

abbrev hbmTy0_1 (i : Nat) : BufTy := match i % 128 with
  | 0 => ⟨S4x4096x1, .i1⟩
  | 1 => ⟨S4x4096x1, .i1⟩
  | 2 => ⟨S_, .i1⟩
  | 3 => ⟨S4x4096, .i1⟩
  | 4 => ⟨S4x4096x768, .f32⟩
  | 5 => ⟨S4x4096x768, .i1⟩
  | 6 => ⟨S_, .f32⟩
  | 7 => ⟨S4x4096x768, .f32⟩
  | 8 => ⟨S4x4096x768, .f32⟩
  | 9 => ⟨S_, .i32⟩
  | 10 => ⟨S4x4096, .i32⟩
  | 11 => ⟨S4x4096, .i1⟩
  | 12 => ⟨S_, .i32⟩
  | 13 => ⟨S4x4096, .i32⟩
  | 14 => ⟨S4x4096, .i32⟩
  | 15 => ⟨S4x4096, .i32⟩
  | 16 => ⟨S4x4096x1, .i32⟩
  | 17 => ⟨S1, .i32⟩
  | 18 => ⟨S_, .i32⟩
  | 19 => ⟨S4x4096x1, .i32⟩
  | 20 => ⟨S4x4096x1, .i1⟩
  | 21 => ⟨S1x1x1, .i32⟩
  | 22 => ⟨S4x4096x1, .i32⟩
  | 23 => ⟨S4x4096x1, .i1⟩
  | 24 => ⟨S4x4096x1, .i1⟩
  | 25 => ⟨S_, .i1⟩
  | 26 => ⟨S4x4096, .i1⟩
  | 27 => ⟨S4x4096x768, .f32⟩
  | 28 => ⟨S4x4096x768, .i1⟩
  | 29 => ⟨S_, .f32⟩
  | 30 => ⟨S4x4096x768, .f32⟩
  | 31 => ⟨S4x4096x768, .f32⟩
  | 32 => ⟨S4x4096x768, .f32⟩
  | 33 => ⟨S4x4096x768, .f32⟩
  | 34 => ⟨S4x4096x768, .f32⟩
  | 35 => ⟨S4x4096, .i32⟩
  | 36 => ⟨S_, .i32⟩
  | 37 => ⟨S4x4096, .i32⟩
  | 38 => ⟨S4x4096, .i1⟩
  | 39 => ⟨S_, .i32⟩
  | 40 => ⟨S4x4096, .i32⟩
  | 41 => ⟨S4x4096, .i32⟩
  | 42 => ⟨S4x4096, .i32⟩
  | 43 => ⟨S4x4096x1, .i32⟩
  | 44 => ⟨S1, .i32⟩
  | 45 => ⟨S_, .i32⟩
  | 46 => ⟨S4x4096x1, .i32⟩
  | 47 => ⟨S4x4096x1, .i1⟩
  | 48 => ⟨S1x1x1, .i32⟩
  | 49 => ⟨S4x4096x1, .i32⟩
  | 50 => ⟨S4x4096x1, .i1⟩
  | 51 => ⟨S4x4096x1, .i1⟩
  | 52 => ⟨S_, .i1⟩
  | 53 => ⟨S4x4096, .i1⟩
  | 54 => ⟨S4x4096x768, .f32⟩
  | 55 => ⟨S4x4096x768, .i1⟩
  | 56 => ⟨S_, .f32⟩
  | 57 => ⟨S4x4096x768, .f32⟩
  | 58 => ⟨S4x4096x768, .f32⟩
  | 59 => ⟨S4x4096x768, .f32⟩
  | 60 => ⟨S_, .f32⟩
  | 61 => ⟨S4x4096, .f32⟩
  | 62 => ⟨S4x4096x1, .f32⟩
  | 63 => ⟨S_, .f32⟩
  | 64 => ⟨S4x4096x1, .f32⟩
  | 65 => ⟨S4x4096x1, .f32⟩
  | 66 => ⟨S4x4096x768, .f32⟩
  | 67 => ⟨S4x4096x768, .f32⟩
  | 68 => ⟨S4x4096x768, .f32⟩
  | 69 => ⟨S_, .f32⟩
  | 70 => ⟨S4x4096, .f32⟩
  | 71 => ⟨S4x4096x1, .f32⟩
  | 72 => ⟨S_, .f32⟩
  | 73 => ⟨S4x4096x1, .f32⟩
  | 74 => ⟨S4x4096x1, .f32⟩
  | 75 => ⟨S4x4096x768, .f32⟩
  | 76 => ⟨S4x4096x768, .f32⟩
  | 77 => ⟨S_, .f32⟩
  | 78 => ⟨S4x4096x1, .f32⟩
  | 79 => ⟨S4x4096x1, .f32⟩
  | 80 => ⟨S4x4096x1, .f32⟩
  | 81 => ⟨S4x4096x768, .f32⟩
  | 82 => ⟨S4x4096x768, .f32⟩
  | 83 => ⟨S1x1x768, .f32⟩
  | 84 => ⟨S4x4096x768, .f32⟩
  | 85 => ⟨S4x4096x768, .f32⟩
  | 86 => ⟨S1x1x768, .f32⟩
  | 87 => ⟨S4x4096x768, .f32⟩
  | 88 => ⟨S4x4096x768, .f32⟩
  | _ => ⟨S4x4096, .i32⟩

abbrev hbmTy (i : Nat) : BufTy := match i / 128 with
  | 0 => hbmTy0_0 i
  | 1 => hbmTy0_1 i
  | _ => ⟨S4x4096, .i32⟩

abbrev bufTy : (tb : Table) → Fin (tcTables nBuf tb) → BufTy
  | .hbm, ⟨i, _⟩ => hbmTy i
  | _, _ => ⟨S4x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_call0_v0 : Ref sig .tc := ⟨.hbm, 12, rfl⟩
abbrev main_call0_c : Ref sig .tc := ⟨.hbm, 13, rfl⟩
abbrev main_call0_c_0 : Ref sig .tc := ⟨.hbm, 14, rfl⟩
abbrev main_call0_v1_0 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_call1_v0 : Ref sig .tc := ⟨.hbm, 20, rfl⟩
abbrev main_call1_c : Ref sig .tc := ⟨.hbm, 21, rfl⟩
abbrev main_call1_c_0 : Ref sig .tc := ⟨.hbm, 22, rfl⟩
abbrev main_call1_v1_0 : Ref sig .tc := ⟨.hbm, 23, rfl⟩
abbrev main_v6 : Ref sig .tc := ⟨.hbm, 24, rfl⟩
abbrev main_c_1 : Ref sig .tc := ⟨.hbm, 25, rfl⟩
abbrev main_v7 : Ref sig .tc := ⟨.hbm, 26, rfl⟩
abbrev main_v8 : Ref sig .tc := ⟨.hbm, 27, rfl⟩
abbrev main_call2_v0 : Ref sig .tc := ⟨.hbm, 28, rfl⟩
abbrev main_call2_c : Ref sig .tc := ⟨.hbm, 29, rfl⟩
abbrev main_call2_c_0 : Ref sig .tc := ⟨.hbm, 30, rfl⟩
abbrev main_call2_v1_0 : Ref sig .tc := ⟨.hbm, 31, rfl⟩
abbrev main_v9 : Ref sig .tc := ⟨.hbm, 32, rfl⟩
abbrev main_c_2 : Ref sig .tc := ⟨.hbm, 33, rfl⟩
abbrev main_v10 : Ref sig .tc := ⟨.hbm, 34, rfl⟩
abbrev main_v11 : Ref sig .tc := ⟨.hbm, 35, rfl⟩
abbrev main_call3_v0 : Ref sig .tc := ⟨.hbm, 36, rfl⟩
abbrev main_call3_c : Ref sig .tc := ⟨.hbm, 37, rfl⟩
abbrev main_call3_c_0 : Ref sig .tc := ⟨.hbm, 38, rfl⟩
abbrev main_call3_v1_0 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_c_3 : Ref sig .tc := ⟨.hbm, 66, rfl⟩
abbrev main_v38 : Ref sig .tc := ⟨.hbm, 67, rfl⟩
abbrev main_call4_c : Ref sig .tc := ⟨.hbm, 68, rfl⟩
abbrev main_call4_v0 : Ref sig .tc := ⟨.hbm, 69, rfl⟩
abbrev main_call4_v1 : Ref sig .tc := ⟨.hbm, 70, rfl⟩
abbrev main_call4_c_0 : Ref sig .tc := ⟨.hbm, 71, rfl⟩
abbrev main_call4_v2 : Ref sig .tc := ⟨.hbm, 72, rfl⟩
abbrev main_call4_v3 : Ref sig .tc := ⟨.hbm, 73, rfl⟩
abbrev main_call4_v4 : Ref sig .tc := ⟨.hbm, 74, rfl⟩
abbrev main_call4_v5 : Ref sig .tc := ⟨.hbm, 75, rfl⟩
abbrev main_call4_c_1 : Ref sig .tc := ⟨.hbm, 76, rfl⟩
abbrev main_call4_c_2 : Ref sig .tc := ⟨.hbm, 77, rfl⟩
abbrev main_call4_v6 : Ref sig .tc := ⟨.hbm, 78, rfl⟩
abbrev main_call4_v7 : Ref sig .tc := ⟨.hbm, 79, rfl⟩
abbrev main_call4_v8 : Ref sig .tc := ⟨.hbm, 80, rfl⟩
abbrev main_call4_v9 : Ref sig .tc := ⟨.hbm, 81, rfl⟩
abbrev main_call4_v10 : Ref sig .tc := ⟨.hbm, 82, rfl⟩
abbrev main_call4_v11 : Ref sig .tc := ⟨.hbm, 83, rfl⟩
abbrev main_call4_c_3 : Ref sig .tc := ⟨.hbm, 84, rfl⟩
abbrev main_call4_v12 : Ref sig .tc := ⟨.hbm, 85, rfl⟩
abbrev main_call4_v13 : Ref sig .tc := ⟨.hbm, 86, rfl⟩
abbrev main_call4_v14 : Ref sig .tc := ⟨.hbm, 87, rfl⟩
abbrev main_call4_cst : Ref sig .tc := ⟨.hbm, 88, rfl⟩
abbrev main_call4_v15 : Ref sig .tc := ⟨.hbm, 89, rfl⟩
abbrev main_v39 : Ref sig .tc := ⟨.hbm, 90, rfl⟩
abbrev main_call5_c : Ref sig .tc := ⟨.hbm, 91, rfl⟩
abbrev main_call5_v0 : Ref sig .tc := ⟨.hbm, 92, rfl⟩
abbrev main_call5_v1 : Ref sig .tc := ⟨.hbm, 93, rfl⟩
abbrev main_call5_c_0 : Ref sig .tc := ⟨.hbm, 94, rfl⟩
abbrev main_call5_v2 : Ref sig .tc := ⟨.hbm, 95, rfl⟩
abbrev main_call5_v3 : Ref sig .tc := ⟨.hbm, 96, rfl⟩
abbrev main_call5_v4 : Ref sig .tc := ⟨.hbm, 97, rfl⟩
abbrev main_call5_v5 : Ref sig .tc := ⟨.hbm, 98, rfl⟩
abbrev main_call5_c_1 : Ref sig .tc := ⟨.hbm, 99, rfl⟩
abbrev main_call5_c_2 : Ref sig .tc := ⟨.hbm, 100, rfl⟩
abbrev main_call5_v6 : Ref sig .tc := ⟨.hbm, 101, rfl⟩
abbrev main_call5_v7 : Ref sig .tc := ⟨.hbm, 102, rfl⟩
abbrev main_call5_v8 : Ref sig .tc := ⟨.hbm, 103, rfl⟩
abbrev main_call5_v9 : Ref sig .tc := ⟨.hbm, 104, rfl⟩
abbrev main_call5_v10 : Ref sig .tc := ⟨.hbm, 105, rfl⟩
abbrev main_call5_v11 : Ref sig .tc := ⟨.hbm, 106, rfl⟩
abbrev main_call5_c_3 : Ref sig .tc := ⟨.hbm, 107, rfl⟩
abbrev main_call5_v12 : Ref sig .tc := ⟨.hbm, 108, rfl⟩
abbrev main_call5_v13 : Ref sig .tc := ⟨.hbm, 109, rfl⟩
abbrev main_call5_v14 : Ref sig .tc := ⟨.hbm, 110, rfl⟩
abbrev main_call5_cst : Ref sig .tc := ⟨.hbm, 111, rfl⟩
abbrev main_call5_v15 : Ref sig .tc := ⟨.hbm, 112, rfl⟩
abbrev main_v40 : Ref sig .tc := ⟨.hbm, 113, rfl⟩
abbrev main_call6_c : Ref sig .tc := ⟨.hbm, 114, rfl⟩
abbrev main_call6_v0 : Ref sig .tc := ⟨.hbm, 115, rfl⟩
abbrev main_call6_v1 : Ref sig .tc := ⟨.hbm, 116, rfl⟩
abbrev main_call6_c_0 : Ref sig .tc := ⟨.hbm, 117, rfl⟩
abbrev main_call6_v2 : Ref sig .tc := ⟨.hbm, 118, rfl⟩
abbrev main_call6_v3 : Ref sig .tc := ⟨.hbm, 119, rfl⟩
abbrev main_call6_v4 : Ref sig .tc := ⟨.hbm, 120, rfl⟩
abbrev main_call6_v5 : Ref sig .tc := ⟨.hbm, 121, rfl⟩
abbrev main_call6_c_1 : Ref sig .tc := ⟨.hbm, 122, rfl⟩
abbrev main_call6_c_2 : Ref sig .tc := ⟨.hbm, 123, rfl⟩
abbrev main_call6_v6 : Ref sig .tc := ⟨.hbm, 124, rfl⟩
abbrev main_call6_v7 : Ref sig .tc := ⟨.hbm, 125, rfl⟩
abbrev main_call6_v8 : Ref sig .tc := ⟨.hbm, 126, rfl⟩
abbrev main_call6_v9 : Ref sig .tc := ⟨.hbm, 127, rfl⟩
abbrev main_call6_v10 : Ref sig .tc := ⟨.hbm, 128, rfl⟩
abbrev main_call6_v11 : Ref sig .tc := ⟨.hbm, 129, rfl⟩
abbrev main_call6_c_3 : Ref sig .tc := ⟨.hbm, 130, rfl⟩
abbrev main_call6_v12 : Ref sig .tc := ⟨.hbm, 131, rfl⟩
abbrev main_call6_v13 : Ref sig .tc := ⟨.hbm, 132, rfl⟩
abbrev main_call6_v14 : Ref sig .tc := ⟨.hbm, 133, rfl⟩
abbrev main_call6_cst : Ref sig .tc := ⟨.hbm, 134, rfl⟩
abbrev main_call6_v15 : Ref sig .tc := ⟨.hbm, 135, rfl⟩
abbrev main_v41 : Ref sig .tc := ⟨.hbm, 136, rfl⟩
abbrev main_call7_c : Ref sig .tc := ⟨.hbm, 137, rfl⟩
abbrev main_call7_v0 : Ref sig .tc := ⟨.hbm, 138, rfl⟩
abbrev main_call7_v1 : Ref sig .tc := ⟨.hbm, 139, rfl⟩
abbrev main_call7_c_0 : Ref sig .tc := ⟨.hbm, 140, rfl⟩
abbrev main_call7_v2 : Ref sig .tc := ⟨.hbm, 141, rfl⟩
abbrev main_call7_v3 : Ref sig .tc := ⟨.hbm, 142, rfl⟩
abbrev main_call7_v4 : Ref sig .tc := ⟨.hbm, 143, rfl⟩
abbrev main_call7_v5 : Ref sig .tc := ⟨.hbm, 144, rfl⟩
abbrev main_call7_c_1 : Ref sig .tc := ⟨.hbm, 145, rfl⟩
abbrev main_call7_c_2 : Ref sig .tc := ⟨.hbm, 146, rfl⟩
abbrev main_call7_v6 : Ref sig .tc := ⟨.hbm, 147, rfl⟩
abbrev main_call7_v7 : Ref sig .tc := ⟨.hbm, 148, rfl⟩
abbrev main_call7_v8 : Ref sig .tc := ⟨.hbm, 149, rfl⟩
abbrev main_call7_v9 : Ref sig .tc := ⟨.hbm, 150, rfl⟩
abbrev main_call7_v10 : Ref sig .tc := ⟨.hbm, 151, rfl⟩
abbrev main_call7_v11 : Ref sig .tc := ⟨.hbm, 152, rfl⟩
abbrev main_call7_c_3 : Ref sig .tc := ⟨.hbm, 153, rfl⟩
abbrev main_call7_v12 : Ref sig .tc := ⟨.hbm, 154, rfl⟩
abbrev main_call7_v13 : Ref sig .tc := ⟨.hbm, 155, rfl⟩
abbrev main_call7_v14 : Ref sig .tc := ⟨.hbm, 156, rfl⟩
abbrev main_call7_cst : Ref sig .tc := ⟨.hbm, 157, rfl⟩
abbrev main_call7_v15 : Ref sig .tc := ⟨.hbm, 158, rfl⟩
abbrev main_v42 : Ref sig .tc := ⟨.hbm, 159, rfl⟩
abbrev main_v43 : Ref sig .tc := ⟨.hbm, 160, rfl⟩
abbrev main_v44 : Ref sig .tc := ⟨.hbm, 161, rfl⟩
abbrev main_v45 : Ref sig .tc := ⟨.hbm, 162, rfl⟩
abbrev main_v46 : Ref sig .tc := ⟨.hbm, 163, rfl⟩
abbrev main_call8_c : Ref sig .tc := ⟨.hbm, 164, rfl⟩
abbrev main_call8_v0 : Ref sig .tc := ⟨.hbm, 165, rfl⟩
abbrev main_call8_v1 : Ref sig .tc := ⟨.hbm, 166, rfl⟩
abbrev main_call8_c_0 : Ref sig .tc := ⟨.hbm, 167, rfl⟩
abbrev main_call8_v2 : Ref sig .tc := ⟨.hbm, 168, rfl⟩
abbrev main_call8_v3 : Ref sig .tc := ⟨.hbm, 169, rfl⟩
abbrev main_call8_v4 : Ref sig .tc := ⟨.hbm, 170, rfl⟩
abbrev main_call8_v5 : Ref sig .tc := ⟨.hbm, 171, rfl⟩
abbrev main_call8_c_1 : Ref sig .tc := ⟨.hbm, 172, rfl⟩
abbrev main_call8_c_2 : Ref sig .tc := ⟨.hbm, 173, rfl⟩
abbrev main_call8_v6 : Ref sig .tc := ⟨.hbm, 174, rfl⟩
abbrev main_call8_v7 : Ref sig .tc := ⟨.hbm, 175, rfl⟩
abbrev main_call8_v8 : Ref sig .tc := ⟨.hbm, 176, rfl⟩
abbrev main_call8_v9 : Ref sig .tc := ⟨.hbm, 177, rfl⟩
abbrev main_call8_v10 : Ref sig .tc := ⟨.hbm, 178, rfl⟩
abbrev main_call8_v11 : Ref sig .tc := ⟨.hbm, 179, rfl⟩
abbrev main_call8_c_3 : Ref sig .tc := ⟨.hbm, 180, rfl⟩
abbrev main_call8_v12 : Ref sig .tc := ⟨.hbm, 181, rfl⟩
abbrev main_call8_v13 : Ref sig .tc := ⟨.hbm, 182, rfl⟩
abbrev main_call8_v14 : Ref sig .tc := ⟨.hbm, 183, rfl⟩
abbrev main_call8_cst : Ref sig .tc := ⟨.hbm, 184, rfl⟩
abbrev main_call8_v15 : Ref sig .tc := ⟨.hbm, 185, rfl⟩
abbrev main_v47 : Ref sig .tc := ⟨.hbm, 186, rfl⟩
abbrev main_v48 : Ref sig .tc := ⟨.hbm, 187, rfl⟩
abbrev main_cst : Ref sig .tc := ⟨.hbm, 188, rfl⟩
abbrev main_v49 : Ref sig .tc := ⟨.hbm, 189, rfl⟩
abbrev main_v50 : Ref sig .tc := ⟨.hbm, 190, rfl⟩
abbrev main_cst_4 : Ref sig .tc := ⟨.hbm, 191, rfl⟩
abbrev main_v51 : Ref sig .tc := ⟨.hbm, 192, rfl⟩
abbrev main_v52 : Ref sig .tc := ⟨.hbm, 193, rfl⟩
abbrev main_v53 : Ref sig .tc := ⟨.hbm, 194, rfl⟩
abbrev main_v54 : Ref sig .tc := ⟨.hbm, 195, rfl⟩
abbrev main_v55 : Ref sig .tc := ⟨.hbm, 196, rfl⟩
abbrev main_cst_5 : Ref sig .tc := ⟨.hbm, 197, rfl⟩
abbrev main_v56 : Ref sig .tc := ⟨.hbm, 198, rfl⟩
abbrev main_v57 : Ref sig .tc := ⟨.hbm, 199, rfl⟩
abbrev main_cst_6 : Ref sig .tc := ⟨.hbm, 200, rfl⟩
abbrev main_v58 : Ref sig .tc := ⟨.hbm, 201, rfl⟩
abbrev main_v59 : Ref sig .tc := ⟨.hbm, 202, rfl⟩
abbrev main_v60 : Ref sig .tc := ⟨.hbm, 203, rfl⟩
abbrev main_v61 : Ref sig .tc := ⟨.hbm, 204, rfl⟩
abbrev main_cst_7 : Ref sig .tc := ⟨.hbm, 205, rfl⟩
abbrev main_v62 : Ref sig .tc := ⟨.hbm, 206, rfl⟩
abbrev main_v63 : Ref sig .tc := ⟨.hbm, 207, rfl⟩
abbrev main_v64 : Ref sig .tc := ⟨.hbm, 208, rfl⟩
abbrev main_v65 : Ref sig .tc := ⟨.hbm, 209, rfl⟩
abbrev main_v66 : Ref sig .tc := ⟨.hbm, 210, rfl⟩
abbrev main_v67 : Ref sig .tc := ⟨.hbm, 211, rfl⟩
abbrev main_v68 : Ref sig .tc := ⟨.hbm, 212, rfl⟩
abbrev main_v69 : Ref sig .tc := ⟨.hbm, 213, rfl⟩
abbrev main_v70 : Ref sig .tc := ⟨.hbm, 214, rfl⟩
abbrev main_v71 : Ref sig .tc := ⟨.hbm, 215, rfl⟩
abbrev main_v72 : Ref sig .tc := ⟨.hbm, 216, rfl⟩

abbrev nD : Nat := 1
abbrev τ : Topo := Topo.v7x

variable {F : FTy → Type} [FloatOps F]
-- ==== Proof.RefRun.lean ====
/- The reference as one function of its arguments, and its run: from any launch contents the reference's program ends with
   its result buffer holding `Ref.out` of the argument arrays, and the argument arrays as they were. -/
module

public import proofs.«01_k».proof.ReferenceIdeal
public import proofs.«01_k».proof.Proof.Gen.ReferenceIdeal
public import Idealize.ShloMosaic.Lib.Claim
public import Idealize.ShloMosaic.Lib.StableHlo.RunRead

@[expose] public section

noncomputable section

namespace Cert.Proof.Ref

open Idealize.ShloMosaic Idealize.SL.Sem Cert.ReferenceIdeal Cert.ReferenceIdeal.Facts₀

variable {F : FTy → Type} [FloatOps F]

/-! ## The reference's stages, as functions of arrays -/

/-- Per row of `ids`, the position `argmax` gives for the marker `k`: the first one holding `k`, or 0. -/
def first (ids : IVec S4x4096 32) (k : BitVec 32) : IVec S4 32 := fun j =>
  (Host.reduce2 reducer_argmax_i1_i32 (cmpi .eq ids (broadcastInDim S4x4096 ![] bcast_S_S4x4096 (constantI S_ 32 k)))
    (iotaInDim S4x4096 32 1) (constantI S_ 1 0#1) (constantI S_ 32 0#32) reducesTo_S4x4096_S4_d1 h_S_ j).2

/-- The positions `0 … 4095` along every row. -/
def positions : IVec S4x4096 32 :=
  broadcastInDim S4x4096 ![0, 1] bcast_S1x4096_S4x4096_0_1
    (broadcastInDim S1x4096 ![1] bcast_S4096_S1x4096_1 (iotaInDim S4096 32 0))

/-- A per-row position repeated along its row. -/
def alongRow (p : IVec S4 32) : IVec S4x4096 32 :=
  broadcastInDim S4x4096 ![0, 1] bcast_S4x1_S4x4096_0_1 (broadcastInDim S4x1 ![0] bcast_S4_S4x1_0 p)

/-- 1 strictly between the marker `a` and the marker `b`, 0 elsewhere. -/
def between (ids : IVec S4x4096 32) (a b : BitVec 32) : IVec S4x4096 32 :=
  extui 32 (andi (cmpi .sgt positions (alongRow (first ids a))) (cmpi .slt positions (alongRow (first ids b)))) natLt_1_32

/-- The row numbers a lookup in a table of `n` rows reads: negative ones count from the end. -/
def wrapped (i : IVec S4x4096 32) (n : BitVec 32) : IVec S4x4096x1 32 :=
  broadcastInDim S4x4096x1 ![0, 1] bcast_S4x4096_S4x4096x1_0_1
    (select (cmpi .slt i (broadcastInDim S4x4096 ![] bcast_S_S4x4096 (constantI S_ 32 0#32)))
      (addi i (broadcastInDim S4x4096 ![] bcast_S_S4x4096 (constantI S_ 32 n))) i)

/-- Where such a row number lies in `0 … last`. -/
def inTable (w : IVec S4x4096x1 32) (last : BitVec 32) : IVec S4x4096 1 :=
  Host.reduce IntOp.andi
    (andi (cmpi .sge w (broadcastInDim S4x4096x1 ![] bcast_S_S4x4096x1 (constantI S_ 32 0#32)))
      (cmpi .sle w (broadcastInDim S4x4096x1 ![0, 1, 2] bcast_S1x1x1_S4x4096x1_0_1_2
        (broadcastInDim S1x1x1 ![2] bcast_S1_S1x1x1_2 (constantI S1 32 last)))))
    (constantI S_ 1 1#1) reducesTo_S4x4096x1_S4x4096_d2 h_S_

/-- The rows of table `x` that `i` names; a row number outside the table gives the fill value. -/
def take {S : Shape} (g : GatherDims S S4x4096x1 S4x4096x768) (n last : BitVec 32) (x : FVec F S .f32) (i : IVec S4x4096 32) :
    FVec F S4x4096x768 .f32 :=
  select (broadcastInDim S4x4096x768 ![0, 1] bcast_S4x4096_S4x4096x768_0_1 (inTable (wrapped i n) last))
    (Host.gather g x (wrapped i n))
    (broadcastInDim S4x4096x768 ![] bcast_S_S4x4096x768 (constant S_ .f32 0x7FC00000#32))

/-- The sum of the five embeddings. -/
def emb (ids : IVec S4x4096 32) (word : FVec F S100000x768 .f32) (pos : FVec F S4096x768 .f32) (tok sub obj : FVec F S2x768 .f32) :
    FVec F S4x4096x768 .f32 :=
  addf (addf (addf (addf
    (take gather_S100000x768_S4x4096x1_S4x4096x768_2_0_n_n_0_2_1768 100000#32 99999#32 word ids)
    (take gather_S2x768_S4x4096x1_S4x4096x768_2_0_n_n_0_2_1768 2#32 1#32 tok
      (broadcastInDim S4x4096 ![] bcast_S_S4x4096 (constantI S_ 32 0#32))))
    (take gather_S2x768_S4x4096x1_S4x4096x768_2_0_n_n_0_2_1768 2#32 1#32 sub (between ids 7#32 8#32)))
    (take gather_S2x768_S4x4096x1_S4x4096x768_2_0_n_n_0_2_1768 2#32 1#32 obj (between ids 9#32 10#32)))
    (take gather_S4096x768_S4x4096x1_S4x4096x768_2_0_n_n_0_2_1768 4096#32 4095#32 pos positions)

/-- The mean over the last axis, kept as an axis of one. -/
def mean (x : FVec F S4x4096x768 .f32) : FVec F S4x4096x1 .f32 :=
  Host.divf (broadcastInDim S4x4096x1 ![0, 1] bcast_S4x4096_S4x4096x1_0_1
      (Host.reduceAdd x (constant S_ .f32 0x00000000#32) reducesTo_S4x4096x768_S4x4096_d2 h_S_))
    (broadcastInDim S4x4096x1 ![] bcast_S_S4x4096x1 (constant S_ .f32 0x44400000#32))

/-- A per-position value repeated along the last axis. -/
def alongLast (x : FVec F S4x4096x1 .f32) : FVec F S4x4096x768 .f32 :=
  broadcastInDim S4x4096x768 ![0, 1, 2] bcast_S4x4096x1_S4x4096x768_0_1_2 x

/-- `x` less its mean over the last axis. -/
def centred (x : FVec F S4x4096x768 .f32) : FVec F S4x4096x768 .f32 := subf x (alongLast (mean x))

/-- A vector over the last axis repeated at every position. -/
def perFeature (v : FVec F S768 .f32) : FVec F S4x4096x768 .f32 :=
  broadcastInDim S4x4096x768 ![0, 1, 2] bcast_S1x1x768_S4x4096x768_0_1_2
    (broadcastInDim S1x1x768 ![2] bcast_S768_S1x1x768_2 v)

/-- Layer normalisation over the last axis, with weight `w` and bias `b`. -/
def layerNorm (x : FVec F S4x4096x768 .f32) (w b : FVec F S768 .f32) : FVec F S4x4096x768 .f32 :=
  addf (mulf (Host.divf (centred x)
      (alongLast (Host.sqrt (addf (mean (mulf (centred x) (centred x)))
        (broadcastInDim S4x4096x1 ![] bcast_S_S4x4096x1 (constant S_ .f32 0x2B8CBCCC#32))))))
    (perFeature w)) (perFeature b)

/-- The reference's result. -/
def out (ids : IVec S4x4096 32) (word : FVec F S100000x768 .f32) (pos : FVec F S4096x768 .f32) (tok sub obj : FVec F S2x768 .f32)
    (w b : FVec F S768 .f32) : FVec F S4x4096x768 .f32 :=
  layerNorm (emb ids word pos tok sub obj) w b

set_option maxHeartbeats 4000000 in
set_option maxRecDepth 65536 in
/-- The reference's run: its result buffer ends holding `out` of the arguments, which are unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v72)
          = out (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine θ_run_mono (StableHlo.run_hlo _ _ (by hlo_seq) (by decide) (by decide) (by simp)
      (by intro _ h; (repeat (cases h with | head => rfl | tail _ h => ?_)); exact nomatch h) _ _) ?_
  intro r h c
  refine ⟨(h c main_v72).trans ?_, (h c main_arg0).trans ?_, (h c main_arg1).trans ?_, (h c main_arg2).trans ?_,
    (h c main_arg3).trans ?_, (h c main_arg4).trans ?_, (h c main_arg5).trans ?_, (h c main_arg6).trans ?_,
    (h c main_arg7).trans ?_⟩
  all_goals clear h
  · after_reads_simp
    rfl
  all_goals after_reads_simp

end Cert.Proof.Ref

end
-- ==== Proof.Marker.lean ====
/- The position of a marker in a row of 4096 token ids: the least one, or 0 where the row has no such token. Two ways of
   computing it are shown to give that position: the least of the row's candidate positions, 4096 standing for "not here" and
   replaced by 0 at the end; and a fold that keeps the better of two (is it the marker, where) pairs. -/
module

public import proofs.«01_k».proof.ReferenceIdeal
public import Idealize.ShloMosaic.PureOps.Reduce
public import Idealize.ShloMosaic.Lib.Pointwise
public import Idealize.ShloMosaic.Lib.WordCmp

@[expose] public section

namespace Cert.Proof

open Idealize.ShloMosaic

/-- `w` is the least position at which the row `x` holds `k`, and 0 when it holds `k` nowhere. -/
def IsFirst (x : Fin 4096 → BitVec 32) (k w : BitVec 32) : Prop :=
  (∃ i : Fin 4096, x i = k ∧ (∀ j, x j = k → i ≤ j) ∧ w = BitVec.ofNat 32 i.val) ∨ ((∀ i, x i ≠ k) ∧ w = 0#32)

/-- There is one such position. -/
theorem IsFirst.unique {x : Fin 4096 → BitVec 32} {k w w' : BitVec 32} (h : IsFirst x k w) (h' : IsFirst x k w') : w = w' := by
  rcases h with ⟨i, hi, hle, rfl⟩ | ⟨hn, rfl⟩ <;> rcases h' with ⟨j, hj, hle', rfl⟩ | ⟨hn', rfl⟩
  · rw [le_antisymm (hle j hj) (hle' i hi)]
  · exact absurd hi (hn' i)
  · exact absurd hj (hn j)
  · rfl

/-- The least position holding `k`, where there is one. -/
theorem exists_least {x : Fin 4096 → BitVec 32} {k : BitVec 32} (h : ∃ i, x i = k) : ∃ i, x i = k ∧ ∀ j, x j = k → i ≤ j := by
  obtain ⟨i, hi, hm⟩ := WellFounded.has_min (wellFounded_lt (α := Fin 4096)) {i | x i = k} h
  exact ⟨i, hi, fun j hj => not_lt.mp (hm j hj)⟩

/-- A position below 4096 as a signed number. -/
theorem toInt_position (i : Fin 4096) : (BitVec.ofNat 32 i.val).toInt = i.val := by
  have h : (BitVec.ofNat 32 i.val).toNat = i.val := WordCmp.toNat_ofNat_of_lt (by omega)
  rw [WordCmp.toInt_eq_toNat_of_lt_half (by rw [h]; omega), h]

/-! ## The least candidate -/

/-- A fold of signed minima is one of the numbers it folds and no greater than any. -/
theorem fold_minsi {ι : Type} [DecidableEq ι] (s : Finset ι) (f : ι → BitVec 32) (b : BitVec 32) :
    (s.fold IntOp.minsi b f = b ∨ ∃ i ∈ s, s.fold IntOp.minsi b f = f i)
      ∧ (s.fold IntOp.minsi b f).toInt ≤ b.toInt ∧ ∀ i ∈ s, (s.fold IntOp.minsi b f).toInt ≤ (f i).toInt := by
  induction s using Finset.induction_on with
  | empty => simp
  | insert a s ha ih =>
    obtain ⟨h1, h2, h3⟩ := ih
    rw [Finset.fold_insert ha]
    by_cases hc : (f a).toInt < (s.fold IntOp.minsi b f).toInt
    · have e : IntOp.minsi (f a) (s.fold IntOp.minsi b f) = f a := by simp [IntOp.minsi, BitVec.slt, hc]
      rw [e]
      refine ⟨.inr ⟨a, Finset.mem_insert_self _ _, rfl⟩, by omega, fun i hi => ?_⟩
      rcases Finset.mem_insert.mp hi with rfl | hi
      · exact le_refl _
      · have := h3 i hi; omega
    · have e : IntOp.minsi (f a) (s.fold IntOp.minsi b f) = s.fold IntOp.minsi b f := by simp [IntOp.minsi, BitVec.slt, hc]
      rw [e]
      refine ⟨h1.imp id fun ⟨i, hi, e⟩ => ⟨i, Finset.mem_insert_of_mem hi, e⟩, h2, fun i hi => ?_⟩
      rcases Finset.mem_insert.mp hi with rfl | hi
      · omega
      · exact h3 i hi

/-- The least of the candidate positions, 4096 where the row has no candidate. -/
def least (x : Fin 4096 → BitVec 32) (k : BitVec 32) : BitVec 32 :=
  Finset.fold IntOp.minsi 2147483647#32
    (fun i : Fin 4096 => Scalar.select (IntOp.cmpi .eq (x i) k) (BitVec.ofNat 32 i.val) 4096#32) Finset.univ

/-- The least candidate, with 0 for 4096, is the position of the marker. -/
theorem isFirst_least (x : Fin 4096 → BitVec 32) (k : BitVec 32) :
    IsFirst x k (Scalar.select (IntOp.cmpi .eq (least x k) 4096#32) 0#32 (least x k)) := by
  have hcand : ∀ i, (x i = k ∧ Scalar.select (IntOp.cmpi .eq (x i) k) (BitVec.ofNat 32 i.val) 4096#32 = BitVec.ofNat 32 i.val)
      ∨ (x i ≠ k ∧ Scalar.select (IntOp.cmpi .eq (x i) k) (BitVec.ofNat 32 i.val) 4096#32 = 4096#32) := fun i => by
    by_cases h : x i = k <;> simp [h, WordCmp.cmpi_eq_eq, Scalar.select]
  have hbig : (4096#32 : BitVec 32).toInt = 4096 := by decide
  have htop : (2147483647#32 : BitVec 32).toInt = 2147483647 := by decide
  obtain ⟨hm, -, hle⟩ := fold_minsi Finset.univ
    (fun i : Fin 4096 => Scalar.select (IntOp.cmpi .eq (x i) k) (BitVec.ofNat 32 i.val) 4096#32) 2147483647#32
  change (least x k = _ ∨ ∃ i ∈ _, least x k = _) at hm
  change ∀ i ∈ _, (least x k).toInt ≤ _ at hle
  by_cases hex : ∃ i, x i = k
  · obtain ⟨i, hi, hmin⟩ := exists_least hex
    have hlei := hle i (Finset.mem_univ _)
    rcases hcand i with ⟨-, e⟩ | ⟨h, -⟩
    swap; · exact absurd hi h
    rw [e, toInt_position] at hlei
    have hlt := i.isLt
    have key : least x k = BitVec.ofNat 32 i.val := by
      rcases hm with hm | ⟨j, -, hm⟩
      · rw [hm, htop] at hlei; omega
      · rcases hcand j with ⟨hj, e⟩ | ⟨-, e⟩
        · rw [e] at hm
          rw [hm, toInt_position] at hlei
          have := hmin j hj
          have : i = j := le_antisymm this (by rw [Fin.le_def]; omega)
          rw [hm, this]
        · rw [e] at hm; rw [hm, hbig] at hlei; omega
    have hne : least x k ≠ 4096#32 := fun h => by
      have := congrArg BitVec.toInt (key.symm.trans h)
      rw [toInt_position, hbig] at this; omega
    refine .inl ⟨i, hi, hmin, ?_⟩
    rw [WordCmp.cmpi_eq_eq, decide_eq_false hne]
    exact key
  · have hno : ∀ i, x i ≠ k := fun i h => hex ⟨i, h⟩
    have key : least x k = 4096#32 := by
      rcases hm with hm | ⟨j, -, hm⟩
      · have hle0 := hle 0 (Finset.mem_univ _)
        rcases hcand 0 with ⟨h, -⟩ | ⟨-, e⟩
        · exact absurd h (hno 0)
        · rw [e, hbig, hm, htop] at hle0; omega
      · rcases hcand j with ⟨h, -⟩ | ⟨-, e⟩
        · exact absurd h (hno j)
        · exact hm.trans e
    exact .inr ⟨hno, by rw [key]; decide⟩

/-! ## The fold over pairs -/

/-- How good a pair is, less being better: pairs whose bit is 1 come first, then the lesser position. -/
def rank (p : BitVec 1 × BitVec 32) : Int := (if p.1 = 1#1 then 0 else 8589934592) + p.2.toInt

/-- The reducer keeps one of its two pairs, and it is no worse than either. -/
theorem reducer_keeps (a b : BitVec 1 × BitVec 32) :
    (Cert.ReferenceIdeal.reducer_argmax_i1_i32 a b = a ∨ Cert.ReferenceIdeal.reducer_argmax_i1_i32 a b = b)
      ∧ rank (Cert.ReferenceIdeal.reducer_argmax_i1_i32 a b) ≤ rank a
      ∧ rank (Cert.ReferenceIdeal.reducer_argmax_i1_i32 a b) ≤ rank b := by
  obtain ⟨a1, a2⟩ := a
  obtain ⟨b1, b2⟩ := b
  have ha := BitVec.toInt_lt (x := a2); have ha' := BitVec.le_toInt (x := a2)
  have hb := BitVec.toInt_lt (x := b2); have hb' := BitVec.le_toInt (x := b2)
  have hl : a2.slt b2 = decide (a2.toInt < b2.toInt) := rfl
  by_cases hc : a2.toInt < b2.toInt <;>
  rcases bit_eq_zero_or_eq_one a1 with rfl | rfl <;> rcases bit_eq_zero_or_eq_one b1 with rfl | rfl <;>
    simp [Cert.ReferenceIdeal.reducer_argmax_i1_i32, IntOp.cmpi, IntOp.ori, IntOp.andi, Scalar.select, rank, hl, hc] <;> omega

/-- A fold of the reducer is one of the pairs it folds, and no worse than any. -/
theorem foldl_reducer (l : List (BitVec 1 × BitVec 32)) (a : BitVec 1 × BitVec 32) :
    (l.foldl Cert.ReferenceIdeal.reducer_argmax_i1_i32 a = a ∨ l.foldl Cert.ReferenceIdeal.reducer_argmax_i1_i32 a ∈ l)
      ∧ rank (l.foldl Cert.ReferenceIdeal.reducer_argmax_i1_i32 a) ≤ rank a
      ∧ ∀ p ∈ l, rank (l.foldl Cert.ReferenceIdeal.reducer_argmax_i1_i32 a) ≤ rank p := by
  induction l generalizing a with
  | nil => simp
  | cons p l ih =>
    obtain ⟨h1, h2, h3⟩ := ih (Cert.ReferenceIdeal.reducer_argmax_i1_i32 a p)
    obtain ⟨hk, ha, hp⟩ := reducer_keeps a p
    rw [List.foldl_cons]
    refine ⟨?_, by omega, fun q hq => ?_⟩
    · rcases h1 with h1 | h1
      · rcases hk with hk | hk
        · exact .inl (h1.trans hk)
        · exact .inr (by rw [h1, hk]; exact List.mem_cons_self)
      · exact .inr (List.mem_cons_of_mem _ h1)
    · rcases List.mem_cons.mp hq with rfl | hq
      · omega
      · exact h3 q hq

/-- The position of a fold over the pairs (is it the marker, where) of a row, from the pair (no, 0), is the marker's. -/
theorem isFirst_foldl (x : Fin 4096 → BitVec 32) (k : BitVec 32) (l : List (BitVec 1 × BitVec 32))
    (hl : ∀ p, p ∈ l ↔ ∃ i : Fin 4096, p = (IntOp.cmpi .eq (x i) k, BitVec.ofNat 32 i.val)) :
    IsFirst x k (l.foldl Cert.ReferenceIdeal.reducer_argmax_i1_i32 (0#1, 0#32)).2 := by
  obtain ⟨hm, h0, hle⟩ := foldl_reducer l (0#1, 0#32)
  generalize l.foldl Cert.ReferenceIdeal.reducer_argmax_i1_i32 (0#1, 0#32) = r at hm h0 hle
  have hr0 : rank (0#1, 0#32) = 8589934592 := by decide
  have hyes : ∀ i, x i = k → rank (IntOp.cmpi .eq (x i) k, BitVec.ofNat 32 i.val) = i.val := fun i h => by
    simp only [rank, WordCmp.cmpi_eq_eq, decide_eq_true h, toInt_position]
    simp
  have hnot : ∀ i, x i ≠ k → rank (IntOp.cmpi .eq (x i) k, BitVec.ofNat 32 i.val) = 8589934592 + i.val := fun i h => by
    simp only [rank, WordCmp.cmpi_eq_eq, decide_eq_false h, toInt_position]
    simp
  by_cases hex : ∃ i, x i = k
  · obtain ⟨i, hi, hmin⟩ := exists_least hex
    have hri := hle _ ((hl _).mpr ⟨i, rfl⟩)
    rw [hyes i hi] at hri
    have hlt := i.isLt
    refine .inl ⟨i, hi, hmin, ?_⟩
    rcases hm with rfl | hm
    · omega
    · obtain ⟨j, rfl⟩ := (hl r).mp hm
      by_cases hj : x j = k
      · rw [hyes j hj] at hri
        rw [le_antisymm (hmin j hj) (by rw [Fin.le_def]; omega)]
      · rw [hnot j hj] at hri; omega
  · have hno : ∀ i, x i ≠ k := fun i h => hex ⟨i, h⟩
    refine .inr ⟨hno, ?_⟩
    rcases hm with rfl | hm
    · rfl
    · obtain ⟨j, rfl⟩ := (hl r).mp hm
      rw [hnot j (hno j)] at h0
      have : j.val = 0 := by omega
      simp [this]

end Cert.Proof

end
-- ==== Proof.Equation.lean ====
/- The equation of a row of 768 numbers: the normalisation by the row's moments, the row being a sum of two parts whose sums,
   squares and product are summed apart, is the normalisation by the mean and the mean squared distance from it. -/
module

public import Idealize.ShloMosaic.PureOps.Ideal
public import Idealize.ShloMosaic.PureOps.Ideal.Laws

@[expose] public section

noncomputable section

namespace Cert.Proof

open Idealize.ShloMosaic

/-- A finite sum of real numbers, as an extended real, is the sum of them as extended reals. -/
theorem coe_sum {n : Nat} (f : Fin n → ℝ) : ((∑ k, f k : ℝ) : EReal) = ∑ k, (f k : EReal) :=
  map_sum (⟨⟨Real.toEReal, EReal.coe_zero⟩, EReal.coe_add⟩ : ℝ →+ EReal) f Finset.univ

/-- A real number subtracted from the shift `b` is subtracted from the sum, for any extended real `b`. -/
theorem add_sub_shift (x y : ℝ) (b : EReal) : (x : EReal) + (b - y) = ((x - y : ℝ) : EReal) + b := by
  induction b with
  | bot => simp
  | coe b => norm_cast; ring
  | top => rw [EReal.top_sub_coe, EReal.coe_add_top, EReal.coe_add_top]

/-- The mean squared distance from the mean, by the moments of the two parts of the row. -/
theorem variance_eq (t p e : Fin 768 → ℝ) (he : ∀ k, e k = t k + p k) :
    1 / 384 * ∑ k, p k * t k + (∑ k, t k * t k) * (1 / 768) + (∑ k, p k * p k) * (1 / 768)
        - ((∑ k, t k) * (1 / 768) + (∑ k, p k) * (1 / 768)) * ((∑ k, t k) * (1 / 768) + (∑ k, p k) * (1 / 768))
      = (∑ l, (e l - (∑ k, e k) * (1 / 768)) * (e l - (∑ k, e k) * (1 / 768))) * (1 / 768) := by
  have hs : ∑ k, e k = ∑ k, t k + ∑ k, p k := by simp only [he, Finset.sum_add_distrib]
  have hq : ∑ k, e k * e k = ∑ k, t k * t k + 2 * ∑ k, p k * t k + ∑ k, p k * p k := by
    rw [Finset.mul_sum, ← Finset.sum_add_distrib, ← Finset.sum_add_distrib]
    exact Finset.sum_congr rfl fun k _ => by rw [he]; ring
  have hx : ∀ c : ℝ, ∑ l, (e l - c) * (e l - c) = ∑ l, e l * e l - 2 * c * ∑ l, e l + 768 * (c * c) := fun c => by
    have : ∀ l, (e l - c) * (e l - c) = e l * e l - 2 * c * e l + c * c := fun l => by ring
    simp only [this, Finset.sum_add_distrib, Finset.sum_sub_distrib, ← Finset.mul_sum, Finset.sum_const, Finset.card_univ,
      Fintype.card_fin, nsmul_eq_mul]
    norm_num
    ring
  rw [hx, hq, hs]
  ring

/-- The row's mean, the parts' sums being divided apart. -/
def rowMean (t p : Fin 768 → EReal) : EReal := (∑ k, t k) * ((1 / 768 : ℝ) : EReal) + (∑ k, p k) * ((1 / 768 : ℝ) : EReal)

/-- The row's reciprocal deviation by moments: the mean of the squares less the square of the mean, no less than 0. -/
def rowScale (t p : Fin 768 → EReal) (ε : EReal) : EReal :=
  Ideal.rsqrt (max (((1 / 384 : ℝ) : EReal) * ∑ k, p k * t k + (∑ k, t k * t k) * ((1 / 768 : ℝ) : EReal)
    + (∑ k, p k * p k) * ((1 / 768 : ℝ) : EReal) - rowMean t p * rowMean t p) 0 + ε)

/-- The two normalisations agree, with weight 1 and any shift `b`. -/
theorem moments_eq (t p e : Fin 768 → ℝ) (he : ∀ k, e k = t k + p k) {ε : ℝ} (hε : 0 < ε) (b : EReal) (h : Fin 768) :
    ((t h : EReal) + (p h : EReal)) * (rowScale (fun k => t k) (fun k => p k) ε * 1)
        + (b - rowMean (fun k => t k) (fun k => p k) * rowScale (fun k => t k) (fun k => p k) ε)
      = Ideal.div ((e h : EReal) - Ideal.div (∑ k, (e k : EReal)) ((768 : ℝ) : EReal))
          (Ideal.sqrt (Ideal.div (∑ l,
              ((e l : EReal) - Ideal.div (∑ k, (e k : EReal)) ((768 : ℝ) : EReal))
                * ((e l : EReal) - Ideal.div (∑ k, (e k : EReal)) ((768 : ℝ) : EReal)))
            ((768 : ℝ) : EReal) + (ε : EReal))) * 1 + b := by
  have h768 : (768 : ℝ) ≠ 0 := by norm_num
  set v : ℝ := (∑ l, (e l - (∑ k, e k) * (1 / 768)) * (e l - (∑ k, e k) * (1 / 768))) * (1 / 768) with hv
  set μ : ℝ := (∑ k, t k) * (1 / 768) + (∑ k, p k) * (1 / 768) with hμ
  have hμe : μ = (∑ k, e k) * (1 / 768) := by
    simp only [hμ, he, Finset.sum_add_distrib]; ring
  have hv0 : 0 ≤ v := mul_nonneg (Finset.sum_nonneg fun l _ => mul_self_nonneg _) (by norm_num)
  have hpos : 0 < v + ε := by linarith
  have hm : rowMean (fun k => t k) (fun k => p k) = (μ : EReal) := by
    simp only [rowMean, ← coe_sum, ← EReal.coe_mul, ← EReal.coe_add, hμ]
  have hs : rowScale (fun k => t k) (fun k => p k) ε = (((Real.sqrt (v + ε))⁻¹ : ℝ) : EReal) := by
    simp only [rowScale, hm, ← EReal.coe_mul, ← coe_sum, ← EReal.coe_add, ← EReal.coe_sub]
    rw [hμ, variance_eq t p e he, ← hv, max_eq_left (by exact_mod_cast hv0), ← EReal.coe_add, Ideal.rsqrt_coe,
      if_neg (by linarith), if_neg hpos.ne']
  have hd : Ideal.div (∑ k, (e k : EReal)) ((768 : ℝ) : EReal) = (μ : EReal) := by
    rw [Ideal.div_coe h768, ← coe_sum, ← EReal.coe_mul, hμe]
  have hvar : Ideal.div (∑ l, ((e l : EReal) - (μ : EReal)) * ((e l : EReal) - (μ : EReal))) ((768 : ℝ) : EReal) = (v : EReal) := by
    simp only [← EReal.coe_sub, ← EReal.coe_mul, ← coe_sum, Ideal.div_coe h768]
    rw [hv, hμe]
  have hsq : Real.sqrt (v + ε) ≠ 0 := (Real.sqrt_pos.mpr hpos).ne'
  rw [hs, hm, hd, hvar, ← EReal.coe_add v ε, Ideal.sqrt_coe, if_neg (by linarith), Ideal.div_coe hsq, mul_one, mul_one,
    ← EReal.coe_add, ← EReal.coe_mul, ← EReal.coe_mul, add_sub_shift, ← EReal.coe_sub, ← EReal.coe_mul, he]
  refine congrArg (fun r : ℝ => (r : EReal) + b) ?_
  rw [one_div]
  ring

/-- A sum against a one-hot row picks one term. -/
theorem sum_oneHot {n : Nat} (c : Fin n) (o f : Fin n → EReal) (ho : ∀ k, o k = if c = k then 1 else 0) :
    ∑ k, o k * f k = f c := by
  simp only [ho, ite_mul, one_mul, zero_mul, Finset.sum_ite_eq, Finset.mem_univ, if_true]

/-- The divisor of the reference's means is 768. -/
theorem ofBits_768 : Ideal.ofBits .f32 0x44400000#32 = ((768 : ℝ) : EReal) := by
  simp [Ideal.ofBits, Ideal.ieee, -EReal.coe_mul]; norm_num

/-- The number that both programs add to the variance is positive. -/
theorem ofBits_eps : ∃ ε : ℝ, 0 < ε ∧ Ideal.ofBits .f32 0x2B8CBCCC#32 = (ε : EReal) := by
  refine ⟨9223372 * (2 ^ 63)⁻¹, by positivity, ?_⟩
  simp [Ideal.ofBits, Ideal.ieee, -EReal.coe_mul]

/-- The weight that the precondition asks for is 1. -/
theorem ofBits_one : Ideal.ofBits .f32 0x3F800000#32 = 1 := by
  simp [Ideal.ofBits, Ideal.ieee, -EReal.coe_mul]; norm_num

/-- The bound of the precondition's finiteness tests is +∞. -/
theorem ofBits_inf : Ideal.ofBits .f32 0x7F800000#32 = ⊤ := by
  simp [Ideal.ofBits, Ideal.ieee]

end Cert.Proof

end
-- ==== Proof.Block.lean ====
/- What one grid point of the kernel writes, read at an index: the table of the 64 combined rows, the code that chooses one
   of them for a token, and the normalised row. -/
module

public import proofs.«01_k».proof.Proof.Gen.KernelIdeal.Value
public import proofs.«01_k».proof.Proof.Marker
public import proofs.«01_k».proof.Proof.Equation
public import Idealize.ShloMosaic.Lib.Pointwise

@[expose] public section

noncomputable section

namespace Cert.Proof.Block

open Idealize.ShloMosaic Idealize.SL.Sem Cert.KernelIdeal Cert.KernelIdeal.Gen

/-! ## The markers -/

/-- The position of the mark 7 in each row of ids. -/
theorem isFirst_pay2 (v : IVec S4x4096 32) (b : Fin 4) : IsFirst (fun s => v (ix2 b s)) 7#32 (k0_pay2 (F := Ideal) v (ix2 b 0)) := by
  have e : k0_pay2 (F := Ideal) v (ix2 b 0) = Scalar.select (IntOp.cmpi .eq (least (fun s => v (ix2 b s)) 7#32) 4096#32) 0#32
      (least (fun s => v (ix2 b s)) 7#32) := by
    pointwise [k0_pay2]
    rfl
  rw [e]
  exact isFirst_least _ _

/-- The position of the mark 8 in each row of ids. -/
theorem isFirst_pay3 (v : IVec S4x4096 32) (b : Fin 4) : IsFirst (fun s => v (ix2 b s)) 8#32 (k0_pay3 (F := Ideal) v (ix2 b 0)) := by
  have e : k0_pay3 (F := Ideal) v (ix2 b 0) = Scalar.select (IntOp.cmpi .eq (least (fun s => v (ix2 b s)) 8#32) 4096#32) 0#32
      (least (fun s => v (ix2 b s)) 8#32) := by
    pointwise [k0_pay3]
    rfl
  rw [e]
  exact isFirst_least _ _

/-- The position of the mark 9 in each row of ids. -/
theorem isFirst_pay4 (v : IVec S4x4096 32) (b : Fin 4) : IsFirst (fun s => v (ix2 b s)) 9#32 (k0_pay4 (F := Ideal) v (ix2 b 0)) := by
  have e : k0_pay4 (F := Ideal) v (ix2 b 0) = Scalar.select (IntOp.cmpi .eq (least (fun s => v (ix2 b s)) 9#32) 4096#32) 0#32
      (least (fun s => v (ix2 b s)) 9#32) := by
    pointwise [k0_pay4]
    rfl
  rw [e]
  exact isFirst_least _ _

/-- The position of the mark 10 in each row of ids, once 4096 is replaced by 0. -/
theorem isFirst_pay5 (v : IVec S4x4096 32) (b : Fin 4) : IsFirst (fun s => v (ix2 b s)) 10#32
    (Scalar.select (IntOp.cmpi .eq (k0_pay5 (F := Ideal) v (ix2 b 0)) 4096#32) 0#32 (k0_pay5 (F := Ideal) v (ix2 b 0))) := by
  have e : k0_pay5 (F := Ideal) v (ix2 b 0) = least (fun s => v (ix2 b s)) 10#32 := by
    pointwise [k0_pay5]
    rfl
  rw [e]
  exact isFirst_least _ _

/-! ## The code of a token -/

/-- The position of the token `p` of the grid point `g`, as a word. -/
theorem position_word (g p : Nat) : IntOp.addi (BitVec.ofNat 32 p) (Scalar.muli (BitVec.ofNat 32 g) 1024#32) = BitVec.ofNat 32 (1024 * g + p) := by
  show BitVec.ofNat 32 p + BitVec.ofNat 32 g * 1024#32 = _
  apply BitVec.eq_of_toNat_eq
  simp only [BitVec.toNat_add, BitVec.toNat_mul, BitVec.toNat_ofNat]
  omega

/-- Whether the position `s` lies strictly between two others. -/
def inside (s f l : BitVec 32) : BitVec 1 := IntOp.andi (IntOp.cmpi .sgt s f) (IntOp.cmpi .slt s l)

/-- The code is the id, plus 16 inside the first pair of marks, plus 32 inside the second. -/
theorem code_toNat (g : Nat) (v11 v21 v31 v37 : IVec S4x1 32) (v60 : IVec S4x1024 32) (b : Fin 4) (p : Fin 1024)
    (hr : (v60 (ix2 b p)).toNat < 16) :
    (k0_pay6 (F := Ideal) (BitVec.ofNat 32 g) v11 v21 v31 v37 4096#32 v60 (ix2 b p)).toNat
      = (v60 (ix2 b p)).toNat
        + 16 * (inside (BitVec.ofNat 32 (1024 * g + p.val)) (v11 (ix2 b 0)) (v21 (ix2 b 0))).toNat
        + 32 * (inside (BitVec.ofNat 32 (1024 * g + p.val)) (v31 (ix2 b 0))
            (Scalar.select (IntOp.cmpi .eq (v37 (ix2 b 0)) 4096#32) 0#32 (v37 (ix2 b 0)))).toNat := by
  have e : k0_pay6 (F := Ideal) (BitVec.ofNat 32 g) v11 v21 v31 v37 4096#32 v60 (ix2 b p)
      = v60 (ix2 b p)
        + 16#32 * (inside (BitVec.ofNat 32 (1024 * g + p.val)) (v11 (ix2 b 0)) (v21 (ix2 b 0))).setWidth 32
        + 32#32 * (inside (BitVec.ofNat 32 (1024 * g + p.val)) (v31 (ix2 b 0))
            (Scalar.select (IntOp.cmpi .eq (v37 (ix2 b 0)) 4096#32) 0#32 (v37 (ix2 b 0)))).setWidth 32 := by
    pointwise [k0_pay6]
    rw [position_word]
    rfl
  rw [e]
  generalize inside _ (v11 (ix2 b 0)) _ = c
  generalize inside _ (v31 (ix2 b 0)) _ = d
  have hc := c.isLt
  have hd := d.isLt
  simp only [BitVec.toNat_add, BitVec.toNat_mul, BitVec.toNat_ofNat, BitVec.toNat_setWidth]
  omega

/-! ## The table of the combined rows -/

/-- One entry of a combined row: the token's, what every token gets, and what the two bits add. -/
def entry (w t s₀ s₁ o₀ o₁ : EReal) (c d : BitVec 1) : EReal :=
  w + (t + s₀ + o₀) + ((c.toNat : ℝ) : EReal) * (s₁ - s₀) + ((d.toNat : ℝ) : EReal) * (o₁ - o₀)

/-- A word made a number is its signed value. -/
theorem sitofp_word (b : BitVec 32) : FloatOps.sitofp (F := Ideal) .f32 b = ((b.toInt : ℝ) : EReal) := rfl

/-- A bit of a row number, as a number. -/
theorem rowBit (k : Fin 64) :
    (((IntOp.cmpi .ne (IntOp.andi (BitVec.ofNat 32 k.val) 16#32) 0#32).setWidth 32).toInt = (k.val / 16 % 2 : Nat))
      ∧ (((IntOp.cmpi .ne (IntOp.andi (BitVec.ofNat 32 k.val) 32#32) 0#32).setWidth 32).toInt = (k.val / 32 % 2 : Nat)) := by
  revert k
  decide

/-- The row `r + 16 c + 32 d` of the table. -/
theorem table_apply (t₀ s₀ o₀ s₁ o₁ : Vec Ideal S1x768 .f32) (w : Vec Ideal S16x768 .f32) (k : Fin 64) (h : Fin 768)
    (r : Fin 16) (c d : BitVec 1) (hk : k.val = r.val + 16 * c.toNat + 32 * d.toNat) :
    k0_pay9 (k0_pay7 t₀ s₀ o₀) (k0_pay8 s₁ s₀) o₁ o₀ w (ix2 k h)
      = entry (w (ix2 r h)) (t₀ (ix2 0 h)) (s₀ (ix2 0 h)) (s₁ (ix2 0 h)) (o₀ (ix2 0 h)) (o₁ (ix2 0 h)) c d := by
  have hc := c.isLt
  have hd := d.isLt
  have hr := r.isLt
  have e16 : k.val / 16 % 2 = c.toNat := by omega
  have e32 : k.val / 32 % 2 = d.toNat := by omega
  have h7 : k0_pay7 t₀ s₀ o₀ (ix1 h) = t₀ (ix2 0 h) + s₀ (ix2 0 h) + o₀ (ix2 0 h) := by pointwise [k0_pay7]
  have h8 : k0_pay8 s₁ s₀ (ix1 h) = s₁ (ix2 0 h) - s₀ (ix2 0 h) := by pointwise [k0_pay8]
  generalize k0_pay7 t₀ s₀ o₀ = v74 at *
  generalize k0_pay8 s₁ s₀ = v79 at *
  pointwise [k0_pay9]
  have hw : (if _ : k.val < 16 then w (ix2 ⟨k.val, by omega⟩ h)
      else if _ : k.val - 16 < 16 then w (ix2 ⟨k.val - 16, by omega⟩ h)
      else if _ : k.val - 16 - 16 < 16 then w (ix2 ⟨k.val - 16 - 16, by omega⟩ h)
      else w (ix2 ⟨k.val - 16 - 16 - 16, by omega⟩ h)) = w (ix2 r h) := by
    split_ifs <;> refine congrArg (fun a => w (ix2 a h)) (Fin.ext ?_) <;> dsimp only <;> omega
  obtain ⟨h16, h32⟩ := rowBit k
  rw [h7, h8, hw, sitofp_word, sitofp_word, h16, h32, e16, e32, entry]
  simp only [Int.cast_natCast]

/-- The one-hot row of a token. -/
theorem oneHot_apply (v : IVec S4x1024 32) (b : Fin 4) (p : Fin 1024) (k : Fin 64) (c : Fin 64) (hc : (v (ix2 b p)).toNat = c.val) :
    k0_pay10 (F := Ideal) v (ix3 b p k) = if c = k then 1 else 0 := by
  pointwise [k0_pay10]
  have h : (v (ix2 b p) = BitVec.ofNat 32 k.val) ↔ c = k := by
    rw [Fin.ext_iff, ← BitVec.toNat_inj, hc, WordCmp.toNat_ofNat_of_lt (by omega)]
  rw [sitofp_word, WordCmp.cmpi_eq_eq]
  by_cases hk : c = k
  · rw [if_pos hk, decide_eq_true (h.mpr hk)]; simp
  · rw [if_neg hk, decide_eq_false (fun e => hk (h.mp e))]; simp

/-! ## The normalised row -/

/-- The chosen row of the table. -/
theorem chosen_apply (v66 : IVec S4x1024 32) (v74 v79 : FVec Ideal S768 .f32) (v80 v82 : Vec Ideal S1x768 .f32)
    (v86 : Vec Ideal S16x768 .f32) (b : Fin 4) (p : Fin 1024) (h : Fin 768) (c : Fin 64) (hc : (v66 (ix2 b p)).toNat = c.val) :
    k0_pay11 v66 v74 v79 v80 v82 v86 (ix3 b p h) = k0_pay9 v74 v79 v80 v82 v86 (ix2 c h) := by
  have e : k0_pay11 v66 v74 v79 v80 v82 v86 (ix3 b p h)
      = ∑ x, k0_pay10 v66 (ix3 b p x) * k0_pay9 v74 v79 v80 v82 v86 (ix2 x h) := by pointwise [k0_pay11]
  rw [e]
  exact sum_oneHot c _ _ fun k => oneHot_apply v66 b p k c hc

theorem inv_h : Named.named (F := Ideal) (φ := .f32) κ "inv_h" 0x3AAAAAAB#32 = ((1 / 768 : ℝ) : EReal) :=
  IdealRules.named_const.ideal_named_scalar _ _ _ _ rfl

theorem two_inv_h : Named.named (F := Ideal) (φ := .f32) κ "two_inv_h" 0x3B2AAAAB#32 = ((1 / 384 : ℝ) : EReal) :=
  IdealRules.named_const.ideal_named_scalar _ _ _ _ rfl

/-- The mean of a token's row. -/
theorem mean_apply (v66 : IVec S4x1024 32) (v74 v79 : FVec Ideal S768 .f32) (v80 v82 : Vec Ideal S1x768 .f32)
    (v86 : Vec Ideal S16x768 .f32) (x2 : Vec Ideal S1024x768 .f32) (b : Fin 4) (p : Fin 1024) (c : Fin 64)
    (hc : (v66 (ix2 b p)).toNat = c.val) :
    k0_pay13 (k0_pay10 v66) x2 (k0_pay12 v74 v79 v80 v82 v86) (Named.named (F := Ideal) (φ := .f32) κ "inv_h" 0x3AAAAAAB#32) (ix3 b p 0)
      = rowMean (fun h => k0_pay9 v74 v79 v80 v82 v86 (ix2 c h)) (fun h => x2 (ix2 p h)) := by
  have h12 : ∀ k, k0_pay12 v74 v79 v80 v82 v86 (ix2 k 0) = ∑ h, k0_pay9 v74 v79 v80 v82 v86 (ix2 k h) := fun k => by
    pointwise [k0_pay12]
  have h10 := fun k => oneHot_apply v66 b p k c hc
  generalize k0_pay10 (F := Ideal) v66 = v118 at *
  generalize k0_pay12 v74 v79 v80 v82 v86 = v126 at *
  generalize k0_pay9 v74 v79 v80 v82 v86 = v112 at *
  pointwise [k0_pay13]
  rw [inv_h, sum_oneHot c _ _ h10, h12, rowMean]

/-- The reciprocal deviation of a token's row. -/
theorem scale_apply (v66 : IVec S4x1024 32) (v74 v79 : FVec Ideal S768 .f32) (v80 v82 : Vec Ideal S1x768 .f32)
    (v86 : Vec Ideal S16x768 .f32) (x2 : Vec Ideal S1024x768 .f32) (b : Fin 4) (p : Fin 1024) (c : Fin 64)
    (hc : (v66 (ix2 b p)).toNat = c.val) :
    k0_pay14 (k0_pay9 v74 v79 v80 v82 v86) (k0_pay10 v66) x2 (k0_pay12 v74 v79 v80 v82 v86)
        (Named.named (F := Ideal) (φ := .f32) κ "inv_h" 0x3AAAAAAB#32) (ix3 b p 0)
      = rowScale (fun h => k0_pay9 v74 v79 v80 v82 v86 (ix2 c h)) (fun h => x2 (ix2 p h)) (Ideal.ofBits .f32 0x2B8CBCCC#32) := by
  have hm := mean_apply v66 v74 v79 v80 v82 v86 x2 b p c hc
  have h10 := fun k => oneHot_apply v66 b p k c hc
  generalize k0_pay10 (F := Ideal) v66 = v118 at *
  generalize k0_pay12 v74 v79 v80 v82 v86 = v126 at *
  generalize k0_pay9 v74 v79 v80 v82 v86 = v112 at *
  pointwise [k0_pay14]
  rw [hm, inv_h, two_inv_h, sum_oneHot c _ _ h10, rowScale]

/-- The normalised row from its parts. -/
theorem pay1_apply (v123 : FVec Ideal S4x1024x768 .f32) (v124 : Vec Ideal S1024x768 .f32) (v161 v171 : FVec Ideal S4x1024x1 .f32)
    (v172 v180 : Vec Ideal S1x1 .f32) (b : Fin 4) (p : Fin 1024) (h : Fin 768) :
    k0_pay1 v123 v124 v161 v171 v172 v180 (ix3 b p h)
      = (v123 (ix3 b p h) + v124 (ix2 p h)) * (v171 (ix3 b p 0) * v180 (ix2 0 0))
        + (v172 (ix2 0 0) - v161 (ix3 b p 0) * v171 (ix3 b p 0)) := by
  pointwise [k0_pay1]

/-! ## What a grid point writes -/

theorem off2 : (![0, 0] : Fin 2 → Nat) = fun _ => 0 := funext fun a => by fin_cases a <;> rfl

theorem off3 : (![0, 0, 0] : Fin 3 → Nat) = fun _ => 0 := funext fun a => by fin_cases a <;> rfl

/-- The codes of the tokens of a grid point. -/
def codes (i : grid0.Coords) (x0 : Vec Ideal S4x4096 .i32) : IVec S4x1024 32 :=
  k0_pay6 (F := Ideal) (BitVec.ofNat 32 (i 0).val) (k0_pay2 (F := Ideal) x0) (k0_pay3 (F := Ideal) x0) (k0_pay4 (F := Ideal) x0)
    (k0_pay5 (F := Ideal) x0) 4096#32 (View.ld x0 (Rect.unit (k0_off1 i) S4x1024.size (k0_off1_inb i)))

/-- Row 0 of a table of two rows. -/
def row0 (x : Vec Ideal S2x768 .f32) : Vec Ideal S1x768 .f32 := View.ld x (Rect.unit ![0, 0] ![1, 768] inb_S2x768_S1x768_0_0)

/-- Row 1 of a table of two rows. -/
def row1 (x : Vec Ideal S2x768 .f32) : Vec Ideal S1x768 .f32 := View.ld x (Rect.unit ![1, 0] ![1, 768] inb_S2x768_S1x768_1_0)

theorem row0_apply (x : Vec Ideal S2x768 .f32) (h : Fin 768) : row0 x (ix2 0 h) = x (ix2 0 h) := by
  pointwise [row0]

theorem row1_apply (x : Vec Ideal S2x768 .f32) (h : Fin 768) : row1 x (ix2 0 h) = x (ix2 1 h) := by
  pointwise [row1]

/-- The token ids of a grid point. -/
theorem ids_apply (i : grid0.Coords) (x0 : Vec Ideal S4x4096 .i32) (b : Fin 4) (p : Fin 1024) (s : Fin 4096)
    (hs : s.val = 1024 * (i 0).val + p.val) :
    View.ld x0 (Rect.unit (k0_off1 i) S4x1024.size (k0_off1_inb i)) (ix2 b p) = x0 (ix2 b s) := by
  have h0 : k0_off1 i 0 = 0 := rfl
  have h1 : k0_off1 i 1 = 1024 * (i 0).val := by
    show (BitVec.ofNat 32 (i 0).val * 1024#32).toNat = _
    have := s.isLt
    simp only [BitVec.toNat_mul, BitVec.toNat_ofNat]
    omega
  pointwise
  refine congrArg₂ (fun a c => x0 (ix2 a c)) (Fin.ext ?_) (Fin.ext ?_) <;> dsimp only <;> omega

/-- The store's payload, on what the point reads. -/
theorem out_eq (c : Dev nD) (i : grid0.Coords) (arg1 : Memref sig .tc .vmem S4x4096 .i32) (harg1 : arg1.IsWhole)
    (arg2 : Memref sig .tc .vmem S16x768 .f32) (harg2 : arg2.IsWhole) (arg3 : Memref sig .tc .vmem S1024x768 .f32) (harg3 : arg3.IsWhole)
    (arg4 : Memref sig .tc .vmem S2x768 .f32) (harg4 : arg4.IsWhole) (arg5 : Memref sig .tc .vmem S2x768 .f32) (harg5 : arg5.IsWhole)
    (arg6 : Memref sig .tc .vmem S2x768 .f32) (harg6 : arg6.IsWhole) (arg7 : Memref sig .tc .vmem S1x768 .f32) (harg7 : arg7.IsWhole)
    (arg8 : Memref sig .tc .vmem S1x768 .f32) (harg8 : arg8.IsWhole) (arg9 : Memref sig .tc .vmem S4x1024x768 .f32) (harg9 : arg9.IsWhole)
    (x0 : Vec Ideal S4x4096 .i32) (x1 : Vec Ideal S16x768 .f32) (x2 : Vec Ideal S1024x768 .f32) (x3 x4 x5 : Vec Ideal S2x768 .f32)
    (x6 x7 : Vec Ideal S1x768 .f32) :
    out0_A_8 c i arg1 harg1 arg2 harg2 arg3 harg3 arg4 harg4 arg5 harg5 arg6 harg6 arg7 harg7 arg8 harg8 arg9 harg9 x0 x1 x2 x3 x4 x5 x6 x7
      = k0_pay1 (k0_pay11 (codes i x0) (k0_pay7 (row0 x3) (row0 x4) (row0 x5)) (k0_pay8 (row1 x4) (row0 x4)) (row1 x5) (row0 x5) x1) x2
          (k0_pay13 (k0_pay10 (codes i x0)) x2
            (k0_pay12 (k0_pay7 (row0 x3) (row0 x4) (row0 x5)) (k0_pay8 (row1 x4) (row0 x4)) (row1 x5) (row0 x5) x1)
            (Named.named (F := Ideal) (φ := .f32) κ "inv_h" 0x3AAAAAAB#32))
          (k0_pay14 (k0_pay9 (k0_pay7 (row0 x3) (row0 x4) (row0 x5)) (k0_pay8 (row1 x4) (row0 x4)) (row1 x5) (row0 x5) x1)
            (k0_pay10 (codes i x0)) x2
            (k0_pay12 (k0_pay7 (row0 x3) (row0 x4) (row0 x5)) (k0_pay8 (row1 x4) (row0 x4)) (row1 x5) (row0 x5) x1)
            (Named.named (F := Ideal) (φ := .f32) κ "inv_h" 0x3AAAAAAB#32))
          (View.ld x7 (Rect.unit ![0, 0] ![1, 1] inb_S1x768_S1x1_0_0)) (View.ld x6 (Rect.unit ![0, 0] ![1, 1] inb_S1x768_S1x1_0_0)) := by
  unfold out0_A_8
  rw [View.read_writes_junk_eq_canon]
  unfold kernelRun0_A
  dsimp only
  sl_unfold_words
  rw [View.canon_unit_zero off3]
  simp only [View.readAt_eq_ld, harg1.read_unread, harg2.read_unread, harg3.read_unread, harg4.read_unread, harg5.read_unread,
    harg6.read_unread, harg7.read_unread, harg8.read_unread, View.ld_unit_zero (S := S4x4096) off2,
    View.ld_unit_zero (S := S16x768) off2, View.ld_unit_zero (S := S1024x768) off2]
  rfl

/-- A grid point's result at an index: the combined row chosen for the token plus its position's row, normalised by moments. -/
theorem out_apply (c : Dev nD) (i : grid0.Coords) (arg1 : Memref sig .tc .vmem S4x4096 .i32) (harg1 : arg1.IsWhole)
    (arg2 : Memref sig .tc .vmem S16x768 .f32) (harg2 : arg2.IsWhole) (arg3 : Memref sig .tc .vmem S1024x768 .f32) (harg3 : arg3.IsWhole)
    (arg4 : Memref sig .tc .vmem S2x768 .f32) (harg4 : arg4.IsWhole) (arg5 : Memref sig .tc .vmem S2x768 .f32) (harg5 : arg5.IsWhole)
    (arg6 : Memref sig .tc .vmem S2x768 .f32) (harg6 : arg6.IsWhole) (arg7 : Memref sig .tc .vmem S1x768 .f32) (harg7 : arg7.IsWhole)
    (arg8 : Memref sig .tc .vmem S1x768 .f32) (harg8 : arg8.IsWhole) (arg9 : Memref sig .tc .vmem S4x1024x768 .f32) (harg9 : arg9.IsWhole)
    (x0 : Vec Ideal S4x4096 .i32) (x1 : Vec Ideal S16x768 .f32) (x2 : Vec Ideal S1024x768 .f32) (x3 x4 x5 : Vec Ideal S2x768 .f32)
    (x6 x7 : Vec Ideal S1x768 .f32) (b : Fin 4) (p : Fin 1024) (h : Fin 768) (s : Fin 4096) (hs : s.val = 1024 * (i 0).val + p.val)
    (r : Fin 16) (hr : (x0 (ix2 b s)).toNat = r.val) (f₇ f₈ f₉ f₁₀ : BitVec 32)
    (h₇ : IsFirst (fun s => x0 (ix2 b s)) 7#32 f₇) (h₈ : IsFirst (fun s => x0 (ix2 b s)) 8#32 f₈)
    (h₉ : IsFirst (fun s => x0 (ix2 b s)) 9#32 f₉) (h₁₀ : IsFirst (fun s => x0 (ix2 b s)) 10#32 f₁₀)
    (T : Fin 768 → EReal) (hT : ∀ h, T h = entry (x1 (ix2 r h)) (x3 (ix2 0 h)) (x4 (ix2 0 h)) (x4 (ix2 1 h)) (x5 (ix2 0 h))
      (x5 (ix2 1 h)) (inside (BitVec.ofNat 32 s.val) f₇ f₈) (inside (BitVec.ofNat 32 s.val) f₉ f₁₀)) :
    out0_A_8 c i arg1 harg1 arg2 harg2 arg3 harg3 arg4 harg4 arg5 harg5 arg6 harg6 arg7 harg7 arg8 harg8 arg9 harg9 x0 x1 x2 x3 x4 x5 x6 x7
        (ix3 b p h)
      = (T h + x2 (ix2 p h)) * (rowScale T (fun h => x2 (ix2 p h)) (Ideal.ofBits .f32 0x2B8CBCCC#32) * x6 (ix2 0 0))
        + (x7 (ix2 0 0) - rowMean T (fun h => x2 (ix2 p h)) * rowScale T (fun h => x2 (ix2 p h)) (Ideal.ofBits .f32 0x2B8CBCCC#32)) := by
  have hb := (inside (BitVec.ofNat 32 s.val) f₇ f₈).isLt
  have hb' := (inside (BitVec.ofNat 32 s.val) f₉ f₁₀).isLt
  have hcode : (codes i x0 (ix2 b p)).toNat
      = r.val + 16 * (inside (BitVec.ofNat 32 s.val) f₇ f₈).toNat + 32 * (inside (BitVec.ofNat 32 s.val) f₉ f₁₀).toNat := by
    have hld := ids_apply i x0 b p s hs
    rw [codes, code_toNat _ _ _ _ _ _ b p (by rw [hld, hr]; exact r.isLt), hld, hr, ← hs, (isFirst_pay2 x0 b).unique h₇,
      (isFirst_pay3 x0 b).unique h₈, (isFirst_pay4 x0 b).unique h₉, (isFirst_pay5 x0 b).unique h₁₀]
  have hlt := r.isLt
  have htab : ∀ h, k0_pay9 (k0_pay7 (row0 x3) (row0 x4) (row0 x5)) (k0_pay8 (row1 x4) (row0 x4)) (row1 x5) (row0 x5) x1
      (ix2 ⟨(codes i x0 (ix2 b p)).toNat, by omega⟩ h) = T h := fun h => by
    rw [table_apply _ _ _ _ _ _ _ h r _ _ hcode, hT, row0_apply, row0_apply, row0_apply, row1_apply, row1_apply]
  rw [out_eq]
  have hc := chosen_apply (codes i x0) (k0_pay7 (row0 x3) (row0 x4) (row0 x5)) (k0_pay8 (row1 x4) (row0 x4)) (row1 x5) (row0 x5) x1
    b p h ⟨(codes i x0 (ix2 b p)).toNat, by omega⟩ rfl
  have hm := mean_apply (codes i x0) (k0_pay7 (row0 x3) (row0 x4) (row0 x5)) (k0_pay8 (row1 x4) (row0 x4)) (row1 x5) (row0 x5) x1 x2
    b p ⟨(codes i x0 (ix2 b p)).toNat, by omega⟩ rfl
  have hs := scale_apply (codes i x0) (k0_pay7 (row0 x3) (row0 x4) (row0 x5)) (k0_pay8 (row1 x4) (row0 x4)) (row1 x5) (row0 x5) x1 x2
    b p ⟨(codes i x0 (ix2 b p)).toNat, by omega⟩ rfl
  simp only [htab] at hc hm hs
  have hl : ∀ x : Vec Ideal S1x768 .f32, View.ld x (Rect.unit ![0, 0] ![1, 1] inb_S1x768_S1x1_0_0) (ix2 0 0) = x (ix2 0 0) := fun x => by
    pointwise
  rw [pay1_apply, hc, hm, hs, hl, hl]

end Cert.Proof.Block

end
-- ==== Proof.Array.lean ====
/- From grid points to the result array: what each window's block is of its array, and which element of the result a grid
   point writes where. -/
module

public import proofs.«01_k».proof.Proof.Block
public import Idealize.ShloMosaic.Lib.StableHlo.RunRead

@[expose] public section

noncomputable section

namespace Cert.Proof.Array

open Idealize.ShloMosaic Idealize.ShloMosaic.TcCoe Idealize.SL.Sem Cert.KernelIdeal Cert.KernelIdeal.Gen

variable (m : (ℓ : Loc nD τ sig) → Buf (Elt Ideal) ℓ)

/-! ## The weights and shifts, laid out as one row each -/

theorem V_main_v0 (c : Dev nD) (h : Fin 768) : V m c main_v0 (ix2 0 h) = m ((c : Thread nD τ).loc main_arg6) (ix1 h) := by
  have e : V m c main_v0 = shapeCast S1x768 (m ((c : Thread nD τ).loc main_arg6)) shapeCasts_S768_S1x768 := by
    after_reads_simp [hostOps0]
    rfl
  rw [e]
  pointwise

theorem V_main_v1 (c : Dev nD) (h : Fin 768) : V m c main_v1 (ix2 0 h) = m ((c : Thread nD τ).loc main_arg7) (ix1 h) := by
  have e : V m c main_v1 = shapeCast S1x768 (m ((c : Thread nD τ).loc main_arg7)) shapeCasts_S768_S1x768 := by
    after_reads_simp [hostOps0]
    rfl
  rw [e]
  pointwise

/-! ## Where the blocks lie -/

theorem point (t : Fin cfg0.N) : ((grid0.coords t) 0).val = t.val := (by decide +kernel : ∀ t : Fin grid0.N, ((grid0.coords t) 0).val = t.val) t

theorem index0 (t : Fin cfg0.N) : win0_0.index t (0 : Fin 2) = 0 ∧ win0_0.index t (1 : Fin 2) = 0 :=
  (by decide +kernel : ∀ t : Fin grid0.N, win0_0.index t (0 : Fin 2) = 0 ∧ win0_0.index t (1 : Fin 2) = 0) t
theorem index1 (t : Fin cfg0.N) : win0_1.index t (0 : Fin 2) = 0 ∧ win0_1.index t (1 : Fin 2) = 0 :=
  (by decide +kernel : ∀ t : Fin grid0.N, win0_1.index t (0 : Fin 2) = 0 ∧ win0_1.index t (1 : Fin 2) = 0) t
theorem index2 (t : Fin cfg0.N) : win0_2.index t (0 : Fin 2) = t.val ∧ win0_2.index t (1 : Fin 2) = 0 :=
  (by decide +kernel : ∀ t : Fin grid0.N, win0_2.index t (0 : Fin 2) = t.val ∧ win0_2.index t (1 : Fin 2) = 0) t
theorem index3 (t : Fin cfg0.N) : win0_3.index t (0 : Fin 2) = 0 ∧ win0_3.index t (1 : Fin 2) = 0 :=
  (by decide +kernel : ∀ t : Fin grid0.N, win0_3.index t (0 : Fin 2) = 0 ∧ win0_3.index t (1 : Fin 2) = 0) t
theorem index4 (t : Fin cfg0.N) : win0_4.index t (0 : Fin 2) = 0 ∧ win0_4.index t (1 : Fin 2) = 0 :=
  (by decide +kernel : ∀ t : Fin grid0.N, win0_4.index t (0 : Fin 2) = 0 ∧ win0_4.index t (1 : Fin 2) = 0) t
theorem index5 (t : Fin cfg0.N) : win0_5.index t (0 : Fin 2) = 0 ∧ win0_5.index t (1 : Fin 2) = 0 :=
  (by decide +kernel : ∀ t : Fin grid0.N, win0_5.index t (0 : Fin 2) = 0 ∧ win0_5.index t (1 : Fin 2) = 0) t
theorem index6 (t : Fin cfg0.N) : win0_6.index t (0 : Fin 2) = 0 ∧ win0_6.index t (1 : Fin 2) = 0 :=
  (by decide +kernel : ∀ t : Fin grid0.N, win0_6.index t (0 : Fin 2) = 0 ∧ win0_6.index t (1 : Fin 2) = 0) t
theorem index7 (t : Fin cfg0.N) : win0_7.index t (0 : Fin 2) = 0 ∧ win0_7.index t (1 : Fin 2) = 0 :=
  (by decide +kernel : ∀ t : Fin grid0.N, win0_7.index t (0 : Fin 2) = 0 ∧ win0_7.index t (1 : Fin 2) = 0) t
theorem index8 (t : Fin cfg0.N) : win0_8.index t (0 : Fin 3) = 0 ∧ win0_8.index t (1 : Fin 3) = t.val ∧ win0_8.index t (2 : Fin 3) = 0 :=
  (by decide +kernel : ∀ t : Fin grid0.N,
    win0_8.index t (0 : Fin 3) = 0 ∧ win0_8.index t (1 : Fin 3) = t.val ∧ win0_8.index t (2 : Fin 3) = 0) t

/-- Two indices of rank 2 with equal coordinates. -/
theorem idx2_ext {n k : Nat} {x y : Shape.Idx ⟨2, ![n, k]⟩} (h0 : (x 0).val = (y 0).val) (h1 : (x 1).val = (y 1).val) : x = y := by
  funext a
  apply Fin.ext
  match a with
  | ⟨0, _⟩ => exact h0
  | ⟨1, _⟩ => exact h1

/-! ## The blocks -/

/-- Every point sees all the ids. -/
theorem iblk0_eq (c : Dev nD) (t : Fin cfg0.N) : iblk m c 0 t = m ((c : Thread nD τ).loc main_arg0) := by
  obtain ⟨e0, e1⟩ := index0 t
  rw [← V_main_arg0 m c]
  funext j
  show V m c main_arg0 (((cfg0.win 0).blk t).view.emb j) = V m c main_arg0 j
  refine congrArg _ (idx2_ext ?_ ?_)
  · show win0_0.index t (0 : Fin 2) * 4 + 1 * (j 0).val = _; omega
  · show win0_0.index t (1 : Fin 2) * 4096 + 1 * (j 1).val = _; omega

/-- … the first 16 rows of the token table, -/
theorem iblk1_apply (c : Dev nD) (t : Fin cfg0.N) (r : Fin 16) (h : Fin 768) :
    iblk m c 1 t (ix2 r h) = m ((c : Thread nD τ).loc main_arg1) (ix2 (r.castLE (by omega)) h) := by
  obtain ⟨e0, e1⟩ := index1 t
  rw [← V_main_arg1 m c]
  show V m c main_arg1 (((cfg0.win 1).blk t).view.emb (ix2 r h)) = _
  refine congrArg _ (idx2_ext ?_ ?_)
  · show win0_1.index t (0 : Fin 2) * 16 + 1 * r.val = r.val; omega
  · show win0_1.index t (1 : Fin 2) * 768 + 1 * h.val = h.val; omega

/-- … the rows of its own 1024 positions, -/
theorem iblk2_apply (c : Dev nD) (t : Fin cfg0.N) (p : Fin 1024) (h : Fin 768) (s : Fin 4096) (hs : s.val = 1024 * t.val + p.val) :
    iblk m c 2 t (ix2 p h) = m ((c : Thread nD τ).loc main_arg2) (ix2 s h) := by
  obtain ⟨e0, e1⟩ := index2 t
  rw [← V_main_arg2 m c]
  show V m c main_arg2 (((cfg0.win 2).blk t).view.emb (ix2 p h)) = _
  refine congrArg _ (idx2_ext ?_ ?_)
  · show win0_2.index t (0 : Fin 2) * 1024 + 1 * p.val = s.val; omega
  · show win0_2.index t (1 : Fin 2) * 768 + 1 * h.val = h.val; omega

/-- … the three small tables, -/
theorem iblk3_eq (c : Dev nD) (t : Fin cfg0.N) : iblk m c 3 t = m ((c : Thread nD τ).loc main_arg3) := by
  obtain ⟨e0, e1⟩ := index3 t
  rw [← V_main_arg3 m c]
  funext j
  show V m c main_arg3 (((cfg0.win 3).blk t).view.emb j) = V m c main_arg3 j
  refine congrArg _ (idx2_ext ?_ ?_)
  · show win0_3.index t (0 : Fin 2) * 2 + 1 * (j 0).val = _; omega
  · show win0_3.index t (1 : Fin 2) * 768 + 1 * (j 1).val = _; omega

theorem iblk4_eq (c : Dev nD) (t : Fin cfg0.N) : iblk m c 4 t = m ((c : Thread nD τ).loc main_arg4) := by
  obtain ⟨e0, e1⟩ := index4 t
  rw [← V_main_arg4 m c]
  funext j
  show V m c main_arg4 (((cfg0.win 4).blk t).view.emb j) = V m c main_arg4 j
  refine congrArg _ (idx2_ext ?_ ?_)
  · show win0_4.index t (0 : Fin 2) * 2 + 1 * (j 0).val = _; omega
  · show win0_4.index t (1 : Fin 2) * 768 + 1 * (j 1).val = _; omega

theorem iblk5_eq (c : Dev nD) (t : Fin cfg0.N) : iblk m c 5 t = m ((c : Thread nD τ).loc main_arg5) := by
  obtain ⟨e0, e1⟩ := index5 t
  rw [← V_main_arg5 m c]
  funext j
  show V m c main_arg5 (((cfg0.win 5).blk t).view.emb j) = V m c main_arg5 j
  refine congrArg _ (idx2_ext ?_ ?_)
  · show win0_5.index t (0 : Fin 2) * 2 + 1 * (j 0).val = _; omega
  · show win0_5.index t (1 : Fin 2) * 768 + 1 * (j 1).val = _; omega

/-- … the weights and the shifts. -/
theorem iblk6_apply (c : Dev nD) (t : Fin cfg0.N) (h : Fin 768) :
    iblk m c 6 t (ix2 0 h) = m ((c : Thread nD τ).loc main_arg6) (ix1 h) := by
  obtain ⟨e0, e1⟩ := index6 t
  rw [← V_main_v0 m c]
  show V m c main_v0 (((cfg0.win 6).blk t).view.emb (ix2 0 h)) = _
  refine congrArg _ (idx2_ext ?_ ?_)
  · show win0_6.index t (0 : Fin 2) * 1 + 1 * 0 = 0; omega
  · show win0_6.index t (1 : Fin 2) * 768 + 1 * h.val = h.val; omega

theorem iblk7_apply (c : Dev nD) (t : Fin cfg0.N) (h : Fin 768) :
    iblk m c 7 t (ix2 0 h) = m ((c : Thread nD τ).loc main_arg7) (ix1 h) := by
  obtain ⟨e0, e1⟩ := index7 t
  rw [← V_main_v1 m c]
  show V m c main_v1 (((cfg0.win 7).blk t).view.emb (ix2 0 h)) = _
  refine congrArg _ (idx2_ext ?_ ?_)
  · show win0_7.index t (0 : Fin 2) * 1 + 1 * 0 = 0; omega
  · show win0_7.index t (1 : Fin 2) * 768 + 1 * h.val = h.val; omega

/-! ## The result array -/

/-- The element of the result that the point `t` writes at `(b, p, h)`. -/
theorem emb8 (t : Fin cfg0.N) (b : Fin 4) (p : Fin 1024) (h : Fin 768) (s : Fin 4096) (hs : s.val = 1024 * t.val + p.val) :
    ((cfg0.win 8).blk t).view.emb (ix3 b p h) = ix3 b s h := by
  obtain ⟨e0, e1, e2⟩ := index8 t
  funext a
  apply Fin.ext
  match a with
  | ⟨0, _⟩ => show win0_8.index t (0 : Fin 3) * 4 + 1 * b.val = b.val; omega
  | ⟨1, _⟩ => show win0_8.index t (1 : Fin 3) * 1024 + 1 * p.val = s.val; omega
  | ⟨2, _⟩ => show win0_8.index t (2 : Fin 3) * 768 + 1 * h.val = h.val; omega

/-- Every element of the result is written by a point. -/
theorem covered8 (i : S4x4096x768.Idx) : ∃ t : Fin cfg0.N, (cfg0.win 8).flush t = true ∧ i ∈ ((cfg0.win 8).blk t).view.set := by
  have hlt : (i 1).val < 4096 := (i 1).isLt
  have hN : cfg0.N = 4 := by decide +kernel
  have ht : (i 1).val / 1024 < cfg0.N := by rw [hN]; omega
  refine ⟨⟨(i 1).val / 1024, ht⟩, flush0_8 _, ?_⟩
  have e := emb8 ⟨(i 1).val / 1024, ht⟩ (i 0) ⟨(i 1).val % 1024, by omega⟩ (i 2) (i 1)
    (by show (i 1).val = 1024 * ((i 1).val / 1024) + (i 1).val % 1024; omega)
  have h := ((cfg0.win 8).blk ⟨(i 1).val / 1024, ht⟩).view.emb_mem_set (ix3 (i 0) ⟨(i 1).val % 1024, by omega⟩ (i 2))
  rw [e] at h
  have hi : (ix3 (i 0) (i 1) (i 2) : S4x4096x768.Idx) = i := by
    funext a
    match a with
    | ⟨0, _⟩ => rfl
    | ⟨1, _⟩ => rfl
    | ⟨2, _⟩ => rfl
  rwa [hi] at h

/-- An array that holds, at every point's places, what the kernel's body computes there is the result. -/
theorem final_eq (c : Dev nD) (G : Vec Ideal S4x4096x768 .f32)
    (hG : ∀ (t : Fin cfg0.N) (b : Fin 4) (p : Fin 1024) (h : Fin 768) (s : Fin 4096), s.val = 1024 * t.val + p.val →
      out0_A_8 c (grid0.coords t) (ms0_0 t) (hs0_0 t) (ms0_1 t) (hs0_1 t) (ms0_2 t) (hs0_2 t) (ms0_3 t) (hs0_3 t) (ms0_4 t) (hs0_4 t)
        (ms0_5 t) (hs0_5 t) (ms0_6 t) (hs0_6 t) (ms0_7 t) (hs0_7 t) (ms0_8 t) (hs0_8 t) (iblk m c 0 t) (iblk m c 1 t) (iblk m c 2 t)
        (iblk m c 3 t) (iblk m c 4 t) (iblk m c 5 t) (iblk m c 6 t) (iblk m c 7 t) (ix3 b p h) = G (ix3 b s h)) :
    (dats m 0 c).arrAt 8 cfg0.N = G := by
  refine (dats m 0 c).arrAt_eq_of_cover 8 G (fun t _ => ?_) covered8
  rw [Value.flushed8_A]
  funext j
  have hN : cfg0.grid.N = 4 := by decide +kernel
  have ht : t.val < cfg0.grid.N := t.isLt
  have hp : (j 1).val < 1024 := (j 1).isLt
  have hj : j = (ix3 (j 0) (j 1) (j 2) : S4x1024x768.Idx) := by
    funext a
    match a with
    | ⟨0, _⟩ => rfl
    | ⟨1, _⟩ => rfl
    | ⟨2, _⟩ => rfl
  show out0_A_8 _ _ _ _ _ _ _ _ _ _ _ _ _ _ _ _ _ _ _ _ _ _ _ _ _ _ _ _ j = G (((cfg0.win 8).blk t).view.emb j)
  rw [hj, emb8 t (j 0) (j 1) (j 2) ⟨1024 * t.val + (j 1).val, by omega⟩ rfl]
  exact hG t (j 0) (j 1) (j 2) ⟨1024 * t.val + (j 1).val, by omega⟩ rfl

end Cert.Proof.Array

end
-- ==== Proof.RefValue.lean ====
/- What the reference's stages hold at an index. -/
module

public import proofs.«01_k».proof.Proof.RefRun
public import proofs.«01_k».proof.Proof.Marker
public import Idealize.ShloMosaic.Lib.Pointwise
public import Idealize.ShloMosaic.Lib.WordCmp

@[expose] public section

noncomputable section

namespace Cert.Proof.Ref

open Idealize.ShloMosaic Idealize.SL.Sem Cert.ReferenceIdeal Cert.ReferenceIdeal.Facts₀

/-! ## Lookups in a table -/

/-- The dimension numbers of a lookup of whole rows of an `[N, 768]` table by a `[4, 4096]` array of row numbers. -/
abbrev rowsDims (N : Nat)
    (wf : GatherDims.WF ⟨2, ![N, 768]⟩ S4x4096x1 S4x4096x768 [2] [0] [] [0] [] 2 ![1, 768]) :
    GatherDims ⟨2, ![N, 768]⟩ S4x4096x1 S4x4096x768 where
  offsetDims := [2]
  collapsedSliceDims := [0]
  operandBatchingDims := []
  startIndicesBatchingDims := []
  startIndexMap := [0]
  indexVectorDim := 2
  sliceSizes := ![1, 768]
  wf := wf

/-- Such a lookup reads, at row `s` of batch `b`, the table's row of that number, kept within the table. -/
theorem gather_rows_apply {α : Type} {N : Nat} (hN : 0 < N)
    (wf : GatherDims.WF ⟨2, ![N, 768]⟩ S4x4096x1 S4x4096x768 [2] [0] [] [0] [] 2 ![1, 768])
    (x : (⟨2, ![N, 768]⟩ : Shape).Idx → α) (idx : IVec S4x4096x1 32) (b : Fin 4) (s : Fin 4096) (h : Fin 768) :
    Host.gather (rowsDims N wf) x idx (ix3 b s h)
      = x (ix2 ⟨min (idx (ix3 b s 0)).toInt.toNat (N - 1), by omega⟩ h) := by
  unfold Host.gather
  congr 1
  funext a
  refine Fin.ext ?_
  show (rowsDims N wf).start (ix3 b s h) idx a + (rowsDims N wf).batchCoord (ix3 b s h) a
    + (rowsDims N wf).offCoord (ix3 b s h) a = _
  rw [GatherDims.batchCoord_eq_zero _ _ _ List.not_mem_nil]
  have h01 : a = 0 ∨ a = 1 := by
    match a with
    | ⟨0, _⟩ => exact .inl rfl
    | ⟨1, _⟩ => exact .inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ (rowsDims N wf).startIndexMap from List.mem_singleton.mpr rfl)]
    have e : (rowsDims N wf).siIdx (ix3 b s h) ⟨List.idxOf (0 : Fin 2) (rowsDims N wf).startIndexMap,
        List.idxOf_lt_length_iff.2 (List.mem_singleton.mpr rfl)⟩ = ix3 b s 0 := by
      funext c; refine Fin.ext ?_
      match c with
      | ⟨0, _⟩ => rfl
      | ⟨1, _⟩ => rfl
      | ⟨2, _⟩ => rfl
    exact congrArg (fun q => min (idx q).toInt.toNat (N - 1)) e
  · unfold GatherDims.start
    rw [dif_neg (by simp)]
    unfold GatherDims.offCoord
    rw [dif_pos ((GatherDims.mem_sKept _ _).mpr ⟨by simp, List.not_mem_nil⟩)]
    show 0 + 0 + _ = _
    simp only [Nat.zero_add]
    rfl

/-- A row number that is not negative names the row it says. -/
theorem wrapped_apply (i : IVec S4x4096 32) (n : BitVec 32) (b : Fin 4) (s : Fin 4096) (hi : (i (ix2 b s)).toNat < 2 ^ 31) :
    wrapped i n (ix3 b s 0) = i (ix2 b s) := by
  pointwise [wrapped]
  rw [WordCmp.cmpi_slt_of_lt hi (by decide)]
  simp [Scalar.select]

/-- A row number below `N` lies in a table of `N` rows. -/
theorem inTable_apply (w : IVec S4x4096x1 32) (N : Nat) (hN : N ≤ 2 ^ 31) (b : Fin 4) (s : Fin 4096)
    (hw : (w (ix3 b s 0)).toNat < N) : inTable w (BitVec.ofNat 32 (N - 1)) (ix2 b s) = 1#1 := by
  have hl : (BitVec.ofNat 32 (N - 1)).toNat = N - 1 := WordCmp.toNat_ofNat_of_lt (by omega)
  pointwise [inTable]
  rw [show (Finset.univ : Finset (Fin 1)) = {0} from rfl, Finset.fold_singleton, WordCmp.cmpi_sge_of_lt (by omega) (by decide),
    WordCmp.cmpi_sle_of_lt (by omega) (by omega), hl, decide_eq_true (by simp), decide_eq_true (by omega)]
  decide

/-- A lookup with a row number inside the table reads that row. -/
theorem take_apply {N : Nat} (hN : N ≤ 2 ^ 31)
    (wf : GatherDims.WF ⟨2, ![N, 768]⟩ S4x4096x1 S4x4096x768 [2] [0] [] [0] [] 2 ![1, 768])
    (n : BitVec 32) (x : FVec Ideal ⟨2, ![N, 768]⟩ .f32) (i : IVec S4x4096 32) (b : Fin 4) (s : Fin 4096) (h : Fin 768)
    (r : Fin N) (hr : (i (ix2 b s)).toNat = r.val) :
    take (rowsDims N wf) n (BitVec.ofNat 32 (N - 1)) x i (ix3 b s h) = x (ix2 r h) := by
  have hlt := r.isLt
  have hw := wrapped_apply i n b s (by omega)
  pointwise [take]
  rw [inTable_apply _ N hN b s (by rw [hw]; omega), gather_rows_apply (by omega)]
  have hi : (wrapped i n (ix3 b s 0)).toInt.toNat = r.val := by
    rw [hw, WordCmp.toInt_eq_toNat_of_lt_half (by omega), hr]; rfl
  have he : (⟨min (wrapped i n (ix3 b s 0)).toInt.toNat (N - 1), by omega⟩ : Fin N) = r := Fin.ext (by
    show min _ _ = _
    rw [hi]; omega)
  rw [he]
  rfl

/-! ## The positions of the markers -/

/-- The position the arg-max gives for a marker is the marker's. -/
theorem isFirst_first (ids : IVec S4x4096 32) (k : BitVec 32) (b : Fin 4) :
    IsFirst (fun s => ids (ix2 b s)) k (first ids k (ix1 b)) := by
  unfold first
  rw [Host.reduce2_eq_foldl_fiber]
  refine isFirst_foldl (fun s => ids (ix2 b s)) k _ fun p => ?_
  simp only [Host.argReduceFiber, List.mem_map, List.mem_filter, List.mem_finRange, true_and, decide_eq_true_eq]
  constructor
  · rintro ⟨n, hn, rfl⟩
    obtain ⟨s, hs⟩ := (reducesTo_S4x4096_S4_d1.fiber_r2_a1 (ix1 b) _).mp hn
    refine ⟨s, ?_⟩
    rw [← hs]
    rfl
  · rintro ⟨s, rfl⟩
    refine ⟨S4x4096.rowMajor (ix2 b s), ?_, ?_⟩
    · rw [Equiv.symm_apply_apply]
      exact (reducesTo_S4x4096_S4_d1.fiber_r2_a1 (ix1 b) _).mpr ⟨s, rfl⟩
    · rw [Equiv.symm_apply_apply]
      rfl

/-- Whether position `s` of batch `b` lies strictly between the markers `k` and `l`. -/
def mask (ids : IVec S4x4096 32) (k l : BitVec 32) (b : Fin 4) (s : Fin 4096) : BitVec 1 :=
  IntOp.andi (IntOp.cmpi .sgt (BitVec.ofNat 32 s.val) (first ids k (ix1 b)))
    (IntOp.cmpi .slt (BitVec.ofNat 32 s.val) (first ids l (ix1 b)))

/-- A bit as a row number of a table of two rows. -/
def bitRow (c : BitVec 1) : Fin 2 := ⟨c.toNat, c.isLt⟩

/-- The row number that the lookups by mask read. -/
theorem between_toNat (ids : IVec S4x4096 32) (k l : BitVec 32) (b : Fin 4) (s : Fin 4096) :
    (between ids k l (ix2 b s)).toNat = (bitRow (mask ids k l b s)).val := by
  pointwise [between, positions, alongRow]
  have h2 := (mask ids k l b s).isLt
  show (BitVec.setWidth 32 (mask ids k l b s)).toNat = (mask ids k l b s).toNat
  rw [BitVec.toNat_setWidth, Nat.mod_eq_of_lt (by omega)]

/-! ## The sum of the embeddings, and its normalisation -/

/-- The sum of the five embeddings at a token whose id is `r`. -/
theorem emb_apply (ids : IVec S4x4096 32) (word : FVec Ideal S100000x768 .f32) (pos : FVec Ideal S4096x768 .f32)
    (tok sub obj : FVec Ideal S2x768 .f32) (b : Fin 4) (s : Fin 4096) (h : Fin 768)
    (r : Fin 100000) (hr : (ids (ix2 b s)).toNat = r.val) :
    emb ids word pos tok sub obj (ix3 b s h)
      = word (ix2 r h) + tok (ix2 0 h) + sub (ix2 (bitRow (mask ids 7#32 8#32 b s)) h)
        + obj (ix2 (bitRow (mask ids 9#32 10#32 b s)) h) + pos (ix2 s h) := by
  have e1 := take_apply (N := 100000) (by omega) gather_S100000x768_S4x4096x1_S4x4096x768_2_0_n_n_0_2_1768_wf 100000#32 word ids b s h r hr
  have e2 := take_apply (N := 2) (by omega) gather_S2x768_S4x4096x1_S4x4096x768_2_0_n_n_0_2_1768_wf 2#32 tok
    (broadcastInDim S4x4096 ![] bcast_S_S4x4096 (constantI S_ 32 0#32)) b s h 0 rfl
  have e3 := take_apply (N := 2) (by omega) gather_S2x768_S4x4096x1_S4x4096x768_2_0_n_n_0_2_1768_wf 2#32 sub _ b s h _
    (between_toNat ids 7#32 8#32 b s)
  have e4 := take_apply (N := 2) (by omega) gather_S2x768_S4x4096x1_S4x4096x768_2_0_n_n_0_2_1768_wf 2#32 obj _ b s h _
    (between_toNat ids 9#32 10#32 b s)
  have e5 := take_apply (N := 4096) (by omega) gather_S4096x768_S4x4096x1_S4x4096x768_2_0_n_n_0_2_1768_wf 4096#32 pos positions b s h s
    (by pointwise [positions]; exact WordCmp.toNat_ofNat_of_lt (by omega))
  rw [← e1, ← e2, ← e3, ← e4, ← e5]
  rfl

/-- Layer normalisation at an index. -/
theorem layerNorm_apply (x : FVec Ideal S4x4096x768 .f32) (w b : FVec Ideal S768 .f32) (i : Fin 4) (s : Fin 4096) (h : Fin 768) :
    layerNorm x w b (ix3 i s h)
      = Ideal.div (x (ix3 i s h) - Ideal.div (∑ k, x (ix3 i s k)) (Ideal.ofBits .f32 0x44400000#32))
          (Ideal.sqrt (Ideal.div (∑ l,
              (x (ix3 i s l) - Ideal.div (∑ k, x (ix3 i s k)) (Ideal.ofBits .f32 0x44400000#32))
                * (x (ix3 i s l) - Ideal.div (∑ k, x (ix3 i s k)) (Ideal.ofBits .f32 0x44400000#32)))
            (Ideal.ofBits .f32 0x44400000#32) + Ideal.ofBits .f32 0x2B8CBCCC#32)) * w (ix1 h) + b (ix1 h) := by
  pointwise [layerNorm, centred, alongLast, mean, perFeature]

end Cert.Proof.Ref

end
-- ==== Proof.Valid.lean ====
/- What the precondition says of the arguments, one fact per test. -/
module

public import proofs.«01_k».proof.Pre_valid
public import proofs.«01_k».proof.Proof.Gen.Pre_valid
public import proofs.«01_k».proof.Proof.Equation
public import Idealize.ShloMosaic.Lib.Pointwise
public import Idealize.ShloMosaic.Lib.WordCmp

@[expose] public section

noncomputable section

namespace Cert.Proof

open Idealize.ShloMosaic Cert.Pre_valid

/-- A number whose magnitude is below +∞ is real. -/
theorem real_of_abs_lt {x : EReal} (h : Ideal.cmp .olt (max x (-x)) (Ideal.ofBits .f32 0x7F800000#32) = 1#1) : ∃ r : ℝ, x = r := by
  have h' : max x (-x) < ⊤ := by
    rw [← ofBits_inf]; exact (Ideal.cmp_olt_eq_one _ _).mp h
  induction x with
  | bot => simp at h'
  | coe r => exact ⟨r, rfl⟩
  | top => simp at h'

/-- A word that is at least 0 and less than 16 as a signed number is less than 16. -/
theorem lt_of_range {x : BitVec 32} (h : IntOp.andi (IntOp.cmpi .sge x 0#32) (IntOp.cmpi .slt x 16#32) = 1#1) : x.toNat < 16 := by
  rw [WordCmp.cmpi_sge_eq, WordCmp.cmpi_slt_eq] at h
  have h0 : (0#32 : BitVec 32).toInt = 0 := by decide
  have h16 : (16#32 : BitVec 32).toInt = 16 := by decide
  rw [h0, h16] at h
  have hx : 0 ≤ x.toInt ∧ x.toInt < 16 := by
    by_cases h1 : 0 ≤ x.toInt <;> by_cases h2 : x.toInt < 16 <;> simp [h1, h2, IntOp.andi] at h ⊢
  have := BitVec.toInt_eq_toNat_cond x
  have := x.isLt
  split_ifs at * <;> omega

/-- The facts: every id names one of the first 16 rows; those rows, the positions' and those of the three small tables are
    real numbers; the weight is 1 and the shift is the same in every column. -/
structure Valid (ids : IVec S4x4096 32) (word : FVec Ideal S100000x768 .f32) (pos : FVec Ideal S4096x768 .f32)
    (tok sub obj : FVec Ideal S2x768 .f32) (w b : FVec Ideal S768 .f32) : Prop where
  ids : ∀ (i : Fin 4) (s : Fin 4096), (ids (ix2 i s)).toNat < 16
  word : ∀ (r : Fin 16) (h : Fin 768), ∃ x : ℝ, word (ix2 (r.castLE (by omega)) h) = x
  pos : ∀ (s : Fin 4096) (h : Fin 768), ∃ x : ℝ, pos (ix2 s h) = x
  tok : ∀ h : Fin 768, ∃ x : ℝ, tok (ix2 0 h) = x
  sub : ∀ (k : Fin 2) (h : Fin 768), ∃ x : ℝ, sub (ix2 k h) = x
  obj : ∀ (k : Fin 2) (h : Fin 768), ∃ x : ℝ, obj (ix2 k h) = x
  weight : ∀ h : Fin 768, w (ix1 h) = 1
  shift : ∀ h : Fin 768, b (ix1 h) = b (ix1 0)

/-- The precondition gives the facts. -/
theorem Valid.of_fn [Facts] (ids : IVec S4x4096 32) (word : FVec Ideal S100000x768 .f32) (pos : FVec Ideal S4096x768 .f32)
    (tok sub obj : FVec Ideal S2x768 .f32) (w b : FVec Ideal S768 .f32)
    (h1 : (fn ids word pos tok sub obj w b).1 = fun _ => 1#1)
    (h2 : (fn ids word pos tok sub obj w b).2.1 = fun _ => 1#1)
    (h3 : (fn ids word pos tok sub obj w b).2.2.1 = fun _ => 1#1)
    (h4 : (fn ids word pos tok sub obj w b).2.2.2.1 = fun _ => 1#1)
    (h5 : (fn ids word pos tok sub obj w b).2.2.2.2.1 = fun _ => 1#1)
    (h6 : (fn ids word pos tok sub obj w b).2.2.2.2.2.1 = fun _ => 1#1)
    (h7 : (fn ids word pos tok sub obj w b).2.2.2.2.2.2.1 = fun _ => 1#1)
    (h8 : (fn ids word pos tok sub obj w b).2.2.2.2.2.2.2 = fun _ => 1#1) :
    Valid ids word pos tok sub obj w b := by
  simp only [fn, fn_part1] at h1 h2 h3 h4 h5 h6 h7 h8
  refine ⟨fun i s => lt_of_range ?_, fun r h => real_of_abs_lt ?_, fun s h => real_of_abs_lt ?_, fun h => real_of_abs_lt ?_,
    fun k h => real_of_abs_lt ?_, fun k h => real_of_abs_lt ?_, fun h => ?_, fun h => ?_⟩
  · have e := congrFun h1 (ix2 i s)
    pointwise at e
    exact e
  · have e := congrFun h2 (ix2 r h)
    pointwise at e
    exact e
  · have e := congrFun h3 (ix2 s h)
    pointwise at e
    exact e
  · have e := congrFun h4 (ix2 0 h)
    pointwise at e
    exact e
  · have e := congrFun h5 (ix2 k h)
    pointwise at e
    exact e
  · have e := congrFun h6 (ix2 k h)
    pointwise at e
    exact e
  · have e := congrFun h7 (ix1 h)
    pointwise at e
    exact (WordCmp.ofBool_decide_eq_one_iff _).mp e
  · have e := congrFun h8 (ix1 h)
    pointwise at e
    exact (Ideal.cmp_oeq_eq_one _ _).mp e

end Cert.Proof

end
-- ==== Proof.Values.lean ====
/- The kernel's result array is the reference's: at every token and column both are the same function of the arguments. -/
module

public import proofs.«01_k».proof.Proof.Array
public import proofs.«01_k».proof.Proof.RefValue
public import proofs.«01_k».proof.Proof.Valid

@[expose] public section

noncomputable section

namespace Cert.Proof

open Idealize.ShloMosaic Idealize.ShloMosaic.TcCoe Idealize.SL.Sem Cert.KernelIdeal Cert.KernelIdeal.Gen

/-- Of a table of two rows, the first plus the bit times their difference is the row of the bit. -/
theorem bit_row (f : Fin 2 → ℝ) (c : BitVec 1) : f 0 + (c.toNat : ℝ) * (f 1 - f 0) = f (Ref.bitRow c) := by
  rcases bit_eq_zero_or_eq_one c with rfl | rfl
  · have e : Ref.bitRow 0 = 0 := rfl
    rw [e]; simp
  · have e : Ref.bitRow 1 = 1 := rfl
    rw [e]; simp

/-- An entry of a combined row, of real numbers, is real. -/
theorem entry_coe (w t s₀ s₁ o₀ o₁ : ℝ) (c d : BitVec 1) :
    Block.entry w t s₀ s₁ o₀ o₁ c d
      = ((w + (t + s₀ + o₀) + (c.toNat : ℝ) * (s₁ - s₀) + (d.toNat : ℝ) * (o₁ - o₀) : ℝ) : EReal) := by
  simp only [Block.entry, EReal.coe_add, EReal.coe_mul, EReal.coe_sub]

variable (m : (ℓ : Loc nD τ sig) → Buf (Elt Ideal) ℓ)

/-- Where the precondition holds, the result array of the kernel is the reference's value. -/
theorem final_eq_out (c : Dev nD)
    (v : Valid (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7))) :
    (dats m 0 c).arrAt 8 cfg0.N
      = Ref.out (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  refine Array.final_eq m c _ fun t b p h s hs => ?_
  have i1 := Array.iblk1_apply m c t
  have i2 := fun h => Array.iblk2_apply m c t p h s hs
  have i6 := Array.iblk6_apply m c t 0
  have i7 := Array.iblk7_apply m c t 0
  rw [Array.iblk0_eq, Array.iblk3_eq, Array.iblk4_eq, Array.iblk5_eq]
  generalize iblk m c 1 t = x1 at *
  generalize iblk m c 2 t = x2 at *
  generalize iblk m c 6 t = x6 at *
  generalize iblk m c 7 t = x7 at *
  generalize m ((c : Thread nD τ).loc main_arg0) = ids at *
  generalize m ((c : Thread nD τ).loc main_arg1) = word at *
  generalize m ((c : Thread nD τ).loc main_arg2) = pos at *
  generalize m ((c : Thread nD τ).loc main_arg3) = tok at *
  generalize m ((c : Thread nD τ).loc main_arg4) = sub at *
  generalize m ((c : Thread nD τ).loc main_arg5) = obj at *
  generalize m ((c : Thread nD τ).loc main_arg6) = w at *
  generalize m ((c : Thread nD τ).loc main_arg7) = bias at *
  obtain ⟨hids, hword, hpos, htok, hsub, hobj, hw, hb⟩ := v
  choose W hW using hword
  choose P hP using hpos
  choose K hK using htok
  choose S hS using hsub
  choose O hO using hobj
  obtain ⟨ε, hε, he⟩ := ofBits_eps
  set r : Fin 16 := ⟨(ids (ix2 b s)).toNat, hids b s⟩ with hr
  set μ := Ref.mask ids 7#32 8#32 b s with hμ
  set ν := Ref.mask ids 9#32 10#32 b s with hν
  -- the row chosen from the table, the position's row, and their sum as the reference groups it
  let tr : Fin 768 → ℝ := fun k =>
    W r k + (K k + S 0 k + O 0 k) + (μ.toNat : ℝ) * (S 1 k - S 0 k) + (ν.toNat : ℝ) * (O 1 k - O 0 k)
  let er : Fin 768 → ℝ := fun k => W r k + K k + S (Ref.bitRow μ) k + O (Ref.bitRow ν) k + P s k
  have her : ∀ k, er k = tr k + P s k := fun k => by
    show W r k + K k + S (Ref.bitRow μ) k + O (Ref.bitRow ν) k + P s k = _
    rw [← bit_row (fun a => S a k) μ, ← bit_row (fun a => O a k) ν]
    ring
  have hemb : ∀ k, Ref.emb (F := Ideal) ids word pos tok sub obj (ix3 b s k) = (er k : EReal) := fun k => by
    rw [Ref.emb_apply ids word pos tok sub obj b s k (r.castLE (by omega)) rfl, hW, hK, hS, hO, hP]
    simp only [er, EReal.coe_add]
    rfl
  have hpt : ((grid0.coords t) 0).val = t.val := Array.point t
  rw [Block.out_apply c (grid0.coords t) _ _ _ _ _ _ _ _ _ _ _ _ _ _ _ _ _ _ ids x1 x2 tok sub obj x6 x7 b p h s
    (by rw [hpt, hs]) r rfl _ _ _ _ (Ref.isFirst_first ids 7#32 b) (Ref.isFirst_first ids 8#32 b) (Ref.isFirst_first ids 9#32 b)
    (Ref.isFirst_first ids 10#32 b) (fun k => (tr k : EReal))
    (fun k => by rw [i1, hW, hK, hS, hS, hO, hO]; exact (entry_coe _ _ _ _ _ _ μ ν).symm)]
  have hp : (fun k => x2 (ix2 p k)) = fun k => (P s k : EReal) := funext fun k => by rw [i2, hP]
  rw [hp, i2, hP, i6, i7, hw, he, Ref.out, Ref.layerNorm_apply, hw, hb h]
  simp only [hemb, ofBits_768, he]
  exact moments_eq tr (P s) er her hε (bias (ix1 0)) h

end Cert.Proof

end
-- ==== Proof.lean ====
/- The proof of the certificate's claims. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.KernelIdeal.Value
public import proofs.«01_k».proof.Proof.Gen.Pre_valid
public import proofs.«01_k».proof.Proof.RefRun
public import proofs.«01_k».proof.Proof.Values
public import Idealize.ShloMosaic.Adequacy
public import Idealize.ShloMosaic.Init

@[expose] public section

noncomputable section

namespace Cert.Proof

open Idealize.ShloMosaic Idealize.SL.Sem

/-- The reference ends with its arguments as launched; it declares no semaphore. -/
theorem frame_reference : Cert.quiescent_ReferenceIdeal := fun m g _ =>
  θ_run_mono (Ref.run (F := Ideal) m g) fun r h => ⟨fun c => (h c).2, sem_eq_zero_of_no_sems (by decide) r.2⟩

/-- The two constants that the idealized kernel names are the numbers that they round. -/
theorem preserves : Cert.preserves_Kernel_KernelIdeal :=
  ⟨IdealRules.named_const.statement Cert.KernelIdeal.κ "inv_h" .f32 0x3AAAAAAB#32 _ rfl,
   IdealRules.named_const.statement Cert.KernelIdeal.κ "two_inv_h" .f32 0x3B2AAAAB#32 _ rfl⟩

/-- Where the precondition holds, the kernel and the reference run from the same arguments end with equal results. -/
theorem algebraic [Cert.Pre_valid.Facts] : Cert.algebraic_KernelIdeal_ReferenceIdeal_pre_valid := by
  intro m g m' g' hpre hargs
  refine ⟨fun c => Ref.out (F := Ideal) (m (c.tc.loc Cert.KernelIdeal.main_arg0)) (m (c.tc.loc Cert.KernelIdeal.main_arg1))
      (m (c.tc.loc Cert.KernelIdeal.main_arg2)) (m (c.tc.loc Cert.KernelIdeal.main_arg3)) (m (c.tc.loc Cert.KernelIdeal.main_arg4))
      (m (c.tc.loc Cert.KernelIdeal.main_arg5)) (m (c.tc.loc Cert.KernelIdeal.main_arg6)) (m (c.tc.loc Cert.KernelIdeal.main_arg7)),
    θ_run_mono (Cert.KernelIdeal.Value.run_blocks (F := Ideal) m g) fun r h c => ⟨(h c).1.trans ?_, (h c).2⟩,
    θ_run_mono (Ref.run (F := Ideal) m' g') fun r h c => ⟨(h c).1.trans ?_, (h c).2⟩⟩
  · obtain ⟨h1, h2, h3, h4, h5, h6, h7, h8⟩ := hpre c
    exact final_eq_out m c (Valid.of_fn _ _ _ _ _ _ _ _ h1 h2 h3 h4 h5 h6 h7 h8)
  · obtain ⟨e0, e1, e2, e3, e4, e5, e6, e7⟩ := hargs c
    rw [e0, e1, e2, e3, e4, e5, e6, e7]

/-- The certificate's claims. -/
theorem claim : Cert.Claim :=
  ⟨Cert.Kernel.Gen.facts, Cert.KernelIdeal.Gen.facts, Cert.ReferenceIdeal.Gen.facts, Cert.Pre_valid.Gen.facts,
   fun m g _ => Cert.Kernel.Gen.frame m g, fun m g _ => Cert.KernelIdeal.Gen.frame m g,
   fun m g _ => Cert.KernelIdeal.Gen.frame m g, frame_reference, fun m g _ => frame_reference m g trivial, preserves, algebraic⟩

end Cert.Proof

end
